-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35_0) = v0 c
          ∧ r.2.mem ((c.tc : Thread Cert.ReferenceIdeal.nD Cert.ReferenceIdeal.τ).loc Cert.ReferenceIdeal.main_v35_1) = v1 c
          ∧ r.2.mem ((c.tc : Thread Cert.ReferenceIdeal.nD Cert.ReferenceIdeal.τ).loc Cert.ReferenceIdeal.main_v35_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x1024 : Shape := ⟨3, ![8, 1024, 1024]⟩
abbrev S8x1024 : Shape := ⟨2, ![8, 1024]⟩
abbrev S1024x10240 : Shape := ⟨2, ![1024, 10240]⟩
abbrev S1024x8192 : Shape := ⟨2, ![1024, 8192]⟩
abbrev S8192 : Shape := ⟨1, ![8192]⟩
abbrev S8x10240 : Shape := ⟨2, ![8, 10240]⟩
abbrev S1024x2048 : Shape := ⟨2, ![1024, 2048]⟩
abbrev S8x2048 : Shape := ⟨2, ![8, 2048]⟩
abbrev S1x8192 : Shape := ⟨2, ![1, 8192]⟩
abbrev S8x1024x8192 : Shape := ⟨3, ![8, 1024, 8192]⟩
abbrev S8x1024x1 : Shape := ⟨3, ![8, 1024, 1]⟩
abbrev S1x1024x1024 : Shape := ⟨3, ![1, 1024, 1024]⟩
abbrev S1x1024x2048 : Shape := ⟨3, ![1, 1024, 2048]⟩
abbrev S1x1024x1 : Shape := ⟨3, ![1, 1024, 1]⟩
abbrev S1024x128 : Shape := ⟨2, ![1024, 128]⟩
abbrev S1x1024 : Shape := ⟨2, ![1, 1024]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩
abbrev S1x64x1 : Shape := ⟨3, ![1, 64, 1]⟩
abbrev S64x128 : Shape := ⟨2, ![64, 128]⟩
abbrev S1x512 : Shape := ⟨2, ![1, 512]⟩
abbrev S1024x512 : Shape := ⟨2, ![1024, 512]⟩
abbrev S1x256x1024 : Shape := ⟨3, ![1, 256, 1024]⟩
abbrev S256x1024 : Shape := ⟨2, ![256, 1024]⟩
abbrev S256x512 : Shape := ⟨2, ![256, 512]⟩
abbrev S256x128 : Shape := ⟨2, ![256, 128]⟩
abbrev S1x256x512 : Shape := ⟨3, ![1, 256, 512]⟩

abbrev nBuf : Space → Nat
  | .hbm => 12
  | .vmem => 18
  | .smem => 0
  | _ => 0

abbrev bufTy : (tb : Table) → Fin (tcTables nBuf tb) → BufTy
  | .hbm, ⟨0, _⟩ => ⟨S8x1024x1024, .bf16⟩
  | .hbm, ⟨1, _⟩ => ⟨S8x1024, .bf16⟩
  | .hbm, ⟨2, _⟩ => ⟨S1024x10240, .bf16⟩
  | .hbm, ⟨3, _⟩ => ⟨S1024x8192, .fp8e4m3⟩
  | .hbm, ⟨4, _⟩ => ⟨S8192, .f32⟩
  | .hbm, ⟨5, _⟩ => ⟨S8192, .bf16⟩
  | .hbm, ⟨6, _⟩ => ⟨S8x10240, .f32⟩
  | .hbm, ⟨7, _⟩ => ⟨S1x8192, .f32⟩
  | .hbm, ⟨8, _⟩ => ⟨S1x8192, .bf16⟩
  | .hbm, ⟨9, _⟩ => ⟨S8x1024x8192, .bf16⟩
  | .hbm, ⟨10, _⟩ => ⟨S8x1024x1024, .fp8e4m3⟩
  | .hbm, ⟨11, _⟩ => ⟨S8x1024x1, .f32⟩
  | .local _ .vmem, ⟨0, _⟩ => ⟨S8x1024, .bf16⟩
  | .local _ .vmem, ⟨1, _⟩ => ⟨S1024x2048, .bf16⟩
  | .local _ .vmem, ⟨2, _⟩ => ⟨S1024x2048, .bf16⟩
  | .local _ .vmem, ⟨3, _⟩ => ⟨S8x2048, .f32⟩
  | .local _ .vmem, ⟨4, _⟩ => ⟨S8x2048, .f32⟩
  | .local _ .vmem, ⟨5, _⟩ => ⟨S1x1024x1024, .bf16⟩
  | .local _ .vmem, ⟨6, _⟩ => ⟨S1x1024x1024, .bf16⟩
  | .local _ .vmem, ⟨7, _⟩ => ⟨S8x10240, .f32⟩
  | .local _ .vmem, ⟨8, _⟩ => ⟨S1024x8192, .fp8e4m3⟩
  | .local _ .vmem, ⟨9, _⟩ => ⟨S1x8192, .f32⟩
  | .local _ .vmem, ⟨10, _⟩ => ⟨S1x8192, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S1x1024x1024, .fp8e4m3⟩
  | .local _ .vmem, ⟨14, _⟩ => ⟨S1x1024x1024, .fp8e4m3⟩
  | .local _ .vmem, ⟨15, _⟩ => ⟨S1x1024x1, .f32⟩
  | .local _ .vmem, ⟨16, _⟩ => ⟨S1x1024x1, .f32⟩
  | .local _ .vmem, ⟨17, _⟩ => ⟨S1024x128, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg0 : BitVec 32 := BitVec.ofNat 32 (i 0).val
  let v325 : Index := Scalar.indexCast arg0
  let c0_159 : Index := 0#32
  ![v325.toNat, 0]
def k1_off2 (i : grid1.Coords) : Fin 2 → Nat :=
  let arg0 : BitVec 32 := BitVec.ofNat 32 (i 0).val
  let v328 : Index := Scalar.indexCast arg0
  let c1024_160 : Index := 1024#32
  ![v328.toNat, 1024]
@[reducible] def k1_t1_loop : Scf.Loop 32 :=
  let c0_i32_161 : BitVec 32 := 0#32
  let c16_i32 : BitVec 32 := 16#32
  let v331 : BitVec 32 := Scalar.addi c0_i32_161 c16_i32
  let c1_i32 : BitVec 32 := 1#32
  ⟨c0_i32_161, v331, c1_i32⟩
def k1_off3 (k1_t1 : Fin k1_t1_loop.trips) : Fin 3 → Nat :=
  let c0_163 : Index := 0#32
  let c0_i32_161 : BitVec 32 := 0#32
  let c1_i32 : BitVec 32 := 1#32
  let arg11 : BitVec 32 := Scf.iv c0_i32_161 c1_i32 k1_t1
  let c64_i32 : BitVec 32 := 64#32
  let v332 : BitVec 32 := Scalar.muli arg11 c64_i32
  let v333 : Index := Scalar.indexCast v332
  let c0_164 : Index := 0#32
  ![0, v333.toNat, 0]
def k1_off4 (k1_t1 : Fin k1_t1_loop.trips) : Fin 3 → Nat :=
  let c0_200 : Index := 0#32
  let c0_i32_161 : BitVec 32 := 0#32
  let c1_i32 : BitVec 32 := 1#32
  let arg11 : BitVec 32 := Scf.iv c0_i32_161 c1_i32 k1_t1
  let c64_i32 : BitVec 32 := 64#32
  let v332 : BitVec 32 := Scalar.muli arg11 c64_i32
  let v465 : Index := Scalar.indexCast v332
  let c0_201 : Index := 0#32
  ![0, v465.toNat, 0]
def k1_off5 (k1_t1 : Fin k1_t1_loop.trips) : Fin 2 → Nat :=
  let c0_i32_161 : BitVec 32 := 0#32
  let c1_i32 : BitVec 32 := 1#32
  let arg11 : BitVec 32 := Scf.iv c0_i32_161 c1_i32 k1_t1
  let c64_i32 : BitVec 32 := 64#32
  let v332 : BitVec 32 := Scalar.muli arg11 c64_i32
  let v471 : Index := Scalar.indexCast v332
  let c0_202 : Index := 0#32
  ![v471.toNat, 0]
def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off6 (i : grid1.Coords) (c0_i32_3 : BitVec 32) : Fin 2 → Nat :=
  let arg0 : BitVec 32 := BitVec.ofNat 32 (i 0).val
  let v8 : Index := Scalar.indexCast arg0
  let c2048_i32_2 : BitVec 32 := 2048#32
  let arg1 : BitVec 32 := BitVec.ofNat 32 (i 1).val
  let c2048_i32 : BitVec 32 := 2048#32
  let v3 : BitVec 32 := Scalar.muli arg1 c2048_i32
  let v4 : BitVec 32 := v3
  let v6 : BitVec 32 := Scalar.addi c2048_i32_2 v4
  let v7 : BitVec 32 := Scalar.addi v6 c0_i32_3
  let v9 : Index := Scalar.indexCast v7
  ![v8.toNat, v9.toNat]
def k1_off7 (i : grid1.Coords) (c0_i32_1 : BitVec 32) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : BitVec 32 := Scalar.addi v4 c0_i32_1
  let v12 : Index := Scalar.indexCast v5
  ![0, v12.toNat]
def k1_off8 (i : grid1.Coords) (c0_i32_1 : BitVec 32) : Fin 2 → Nat :=
  let c0_5 : Index := 0#32
  let arg1 : BitVec 32 := BitVec.ofNat 32 (i 1).val
  let c2048_i32 : BitVec 32 := 2048#32
  let v3 : BitVec 32 := Scalar.muli arg1 c2048_i32
  let v4 : BitVec 32 := v3
  let v5 : BitVec 32 := Scalar.addi v4 c0_i32_1
  let v19 : Index := Scalar.indexCast v5
  ![0, v19.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8x10240 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x8192 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x8192 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x1024 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S8x1024x1024 : Shape := ⟨3, ![8, 1024, 1024]⟩
abbrev S8x1024 : Shape := ⟨2, ![8, 1024]⟩
abbrev S1024x10240 : Shape := ⟨2, ![1024, 10240]⟩
abbrev S1024x8192 : Shape := ⟨2, ![1024, 8192]⟩
abbrev S8192 : Shape := ⟨1, ![8192]⟩
abbrev S_ : Shape := ⟨0, ![]⟩
abbrev S8x10240 : Shape := ⟨2, ![8, 10240]⟩
abbrev S8x1x1024 : Shape := ⟨3, ![8, 1, 1024]⟩
abbrev S8x8192 : Shape := ⟨2, ![8, 8192]⟩
abbrev S8x1x8192 : Shape := ⟨3, ![8, 1, 8192]⟩
abbrev S8x1024x1 : Shape := ⟨3, ![8, 1024, 1]⟩
abbrev S1x1x8192 : Shape := ⟨3, ![1, 1, 8192]⟩
abbrev S8x1024x8192 : Shape := ⟨3, ![8, 1024, 8192]⟩
abbrev S1x1x256 : Shape := ⟨3, ![1, 1, 256]⟩
abbrev S8x1024x256 : Shape := ⟨3, ![8, 1024, 256]⟩
abbrev S8192x1024 : Shape := ⟨2, ![8192, 1024]⟩
abbrev S8192x8192 : Shape := ⟨2, ![8192, 8192]⟩

abbrev nBuf : Space → Nat
  | .hbm => 58
  | .vmem => 8
  | .smem => 0
  | _ => 0

abbrev bufTy : (tb : Table) → Fin (tcTables nBuf tb) → BufTy
  | .hbm, ⟨0, _⟩ => ⟨S8x1024x1024, .bf16⟩
  | .hbm, ⟨1, _⟩ => ⟨S8x1024, .bf16⟩
  | .hbm, ⟨2, _⟩ => ⟨S1024x10240, .bf16⟩
  | .hbm, ⟨3, _⟩ => ⟨S1024x8192, .fp8e4m3⟩
  | .hbm, ⟨4, _⟩ => ⟨S8192, .f32⟩
  | .hbm, ⟨5, _⟩ => ⟨S8192, .bf16⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .bf16⟩
  | .hbm, ⟨17, _⟩ => ⟨S8x10240, .f32⟩
  | .hbm, ⟨18, _⟩ => ⟨S8x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x8192, .f32⟩
  | .hbm, ⟨23, _⟩ => ⟨S8x1x8192, .f32⟩
  | .hbm, ⟨24, _⟩ => ⟨S8x1024x1024, .f32⟩
  | .hbm, ⟨25, _⟩ => ⟨S_, .f32⟩
  | .hbm, ⟨26, _⟩ => ⟨S8x1024, .f32⟩
  | .hbm, ⟨27, _⟩ => ⟨S8x1024x1, .f32⟩
  | .hbm, ⟨28, _⟩ => ⟨S_, .f32⟩
  | .hbm, ⟨29, _⟩ => ⟨S8x1024x1, .f32⟩
  | .hbm, ⟨30, _⟩ => ⟨S8x1024x1, .f32⟩
  | .hbm, ⟨31, _⟩ => ⟨S8x1024x1024, .f32⟩
  | .hbm, ⟨32, _⟩ => ⟨S8x1024x1024, .f32⟩
  | .hbm, ⟨33, _⟩ => ⟨S8x1024x1024, .f32⟩
  | .hbm, ⟨34, _⟩ => ⟨S_, .f32⟩
  | .hbm, ⟨35, _⟩ => ⟨S8x1024, .f32⟩
  | .hbm, ⟨36, _⟩ => ⟨S8x1024x1, .f32⟩
  | .hbm, ⟨37, _⟩ => ⟨S_, .f32⟩
  | .hbm, ⟨38, _⟩ => ⟨S8x1024x1, .f32⟩
  | .hbm, ⟨39, _⟩ => ⟨S8x1024x1, .f32⟩
  | .hbm, ⟨40, _⟩ => ⟨S_, .f32⟩
  | .hbm, ⟨41, _⟩ => ⟨S8x1024x1, .f32⟩
  | .hbm, ⟨42, _⟩ => ⟨S8x1024x1, .f32⟩
  | .hbm, ⟨43, _⟩ => ⟨S8x1024x1, .f32⟩
  | .hbm, ⟨44, _⟩ => ⟨S8x1024x1024, .f32⟩
  | .hbm, ⟨45, _⟩ => ⟨S8x1024x1024, .f32⟩
  | .hbm, ⟨46, _⟩ => ⟨S_, .f32⟩
  | .hbm, ⟨47, _⟩ => ⟨S8x1x1024, .f32⟩
  | .hbm, ⟨48, _⟩ => ⟨S8x1x1024, .f32⟩
  | .hbm, ⟨49, _⟩ => ⟨S8x1024x1024, .f32⟩
  | .hbm, ⟨50, _⟩ => ⟨S8x1024x1024, .f32⟩
  | .hbm, ⟨51, _⟩ => ⟨S8x1024x1024, .f32⟩
  | .hbm, ⟨52, _⟩ => ⟨S8x1024x1024, .f32⟩
  | .hbm, ⟨53, _⟩ => ⟨S1x1x8192, .f32⟩
  | .hbm, ⟨54, _⟩ => ⟨S1x1x8192, .bf16⟩
  | .hbm, ⟨55, _⟩ => ⟨S8x1024x8192, .bf16⟩
  | .hbm, ⟨56, _⟩ => ⟨S8x1024x1024, .fp8e4m3⟩
  | .hbm, ⟨57, _⟩ => ⟨S8x1024x1, .f32⟩
  | .local _ .vmem, ⟨0, _⟩ => ⟨S8x1024x1024, .f32⟩
  | .local _ .vmem, ⟨1, _⟩ => ⟨S1024x8192, .fp8e4m3⟩
  | .local _ .vmem, ⟨2, _⟩ => ⟨S1x1x8192, .f32⟩
  | .local _ .vmem, ⟨3, _⟩ => ⟨S1x1x8192, .bf16⟩
  | .local _ .vmem, ⟨4, _⟩ => ⟨S8x1x8192, .f32⟩
  | .local _ .vmem, ⟨5, _⟩ => ⟨S8x1024x8192, .bf16⟩
  | .local _ .vmem, ⟨6, _⟩ => ⟨S8x1024x1024, .fp8e4m3⟩
  | .local _ .vmem, ⟨7, _⟩ => ⟨S8x1024x1, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_v35_2 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.BodyBits.lean ====
/-
  The second kernel's body (`adaln_fp8_linear`), run at one grid point.

  At the first point of a sample (`k1_cond1 i = 1#1`) the body quantises the sample's 1024 rows, sixty-four at a time, into
  the codes and scale windows and a scratch copy of the scales; at every point it then multiplies the codes by a
  2048-column panel of the weight, in sixteen tiles of 256 rows by 512 columns.  The definitions below name what each
  buffer holds afterwards as plain functions of the index; `bodyFirst` and `bodyNext` state the two runs.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.ValueIdxCore
public import Idealize.ShloMosaic.Lib.WritesUnit
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-! ## What the buffers hold after the body, as functions of the index -/

/-- Columns `o .. o + 1023` of the modulation row of the point's sample. -/
def modRow (x1 : Vec F S8x10240 .f32) (i : grid1.Coords) (o : Fin 9217) : Vec F S1x1024 .f32 := fun x =>
  x1 (ix2 (⟨(i 0).val, (i 0).isLt⟩ : Fin 8) (⟨o.val + (x 1).val, by have := o.isLt; have h : (x 1).val < 1024 := (x 1).isLt; omega⟩ : Fin 10240))

/-- Rows `64 k .. 64 k + 63` of the sample. -/
def xRows (x0 : Vec F S1x1024x1024 .bf16) (k : Fin 16) : Vec F S1x64x1024 .bf16 := fun x =>
  x0 (ix3 (0 : Fin 1) (⟨64 * k.val + (x 1).val, by have := k.isLt; have h : (x 1).val < 64 := (x 1).isLt; omega⟩ : Fin 1024) (⟨(x 2).val, (x 2).isLt⟩ : Fin 1024))

/-- The scale column of one block of sixty-four rows: its power of two, from the row's greatest magnitude. -/
def tripScale (sh sc : Vec F S1x1024 .f32) (v : Vec F S1x64x1024 .bf16) : FVec F S64x1 .f32 :=
  k1_pay12 (k1_pay4 (k1_pay14 sh) (k1_pay15 sc) v)
    (k1_pay9 (k1_pay5 (k1_pay14 sh) (k1_pay15 sc) v) (k1_pay6 (k1_pay14 sh) (k1_pay15 sc) v) (k1_pay7 (k1_pay14 sh) (k1_pay15 sc) v) k1_pay8) k1_pay10

/-- The codes of one block of sixty-four rows. -/
def tripCodes (sh sc : Vec F S1x1024 .f32) (v : Vec F S1x64x1024 .bf16) : FVec F S64x1024 .fp8e4m3 :=
  k1_pay13 (k1_pay3 (k1_pay14 sh) (k1_pay15 sc) v) (k1_pay4 (k1_pay14 sh) (k1_pay15 sc) v)
    (k1_pay9 (k1_pay5 (k1_pay14 sh) (k1_pay15 sc) v) (k1_pay6 (k1_pay14 sh) (k1_pay15 sc) v) (k1_pay7 (k1_pay14 sh) (k1_pay15 sc) v) k1_pay8) k1_pay10

/-- The block of sixty-four rows a row lies in. -/
def blkOf (r : Fin 1024) : Fin 16 := ⟨r.val / 64, by omega⟩
/-- Its place in that block. -/
def locOf (r : Fin 1024) : Fin 64 := ⟨r.val % 64, Nat.mod_lt _ (by decide)⟩

/-- The codes of the whole sample. -/
def codesV (sh sc : Vec F S1x1024 .f32) (x0 : Vec F S1x1024x1024 .bf16) : Vec F S1x1024x1024 .fp8e4m3 := fun y =>
  k1_pay16 (tripCodes sh sc (xRows x0 (blkOf ⟨(y 1).val, (y 1).isLt⟩))) (ix3 (0 : Fin 1) (locOf ⟨(y 1).val, (y 1).isLt⟩) (⟨(y 2).val, (y 2).isLt⟩ : Fin 1024))

/-- The scales of the whole sample. -/
def scaleV (sh sc : Vec F S1x1024 .f32) (x0 : Vec F S1x1024x1024 .bf16) : Vec F S1x1024x1 .f32 := fun y =>
  k1_pay17 (tripScale sh sc (xRows x0 (blkOf ⟨(y 1).val, (y 1).isLt⟩))) (ix3 (0 : Fin 1) (locOf ⟨(y 1).val, (y 1).isLt⟩) (⟨(y 2).val, (y 2).isLt⟩ : Fin 1))

/-- The scales of the whole sample, each over 128 lanes: the scratch buffer. -/
def scrV (sh sc : Vec F S1x1024 .f32) (x0 : Vec F S1x1024x1024 .bf16) : Vec F S1024x128 .f32 := fun y =>
  k1_pay18 (tripScale sh sc (xRows x0 (blkOf ⟨(y 0).val, (y 0).isLt⟩))) (ix2 (locOf ⟨(y 0).val, (y 0).isLt⟩) (⟨(y 1).val, (y 1).isLt⟩ : Fin 128))

/-- A load through a unit rectangle reads the buffer at the offsets plus the local index. -/
theorem ld_unit_at {s : Shape} {e : EltTy} (x : s.Idx → Elt F e) {off off' size : Fin s.rank → ℕ}
    (inb : ∀ a, off a + size a ≤ s.size a) (h : off = off') (j : (Rect.unit off size inb).shape.Idx) (y : s.Idx)
    (hy : ∀ a, (y a).val = off' a + (j a).val) : View.ld (Val := Elt F) (e' := e) x (Rect.unit off size inb) j = x y := by
  subst h
  show x _ = x _
  congr 1
  funext a
  apply Fin.ext
  show off a + 1 * (j a).val = (y a).val
  rw [hy a]; omega

/-! ## The loop over the sixteen blocks of rows -/

section Loop

variable (i : grid1.Coords) (h1 : k1_cond1 i = 1#1) (sh sc : Vec F S1x1024 .f32) (x0 : Vec F S1x1024x1024 .bf16)

/-- A load of rows `64 k .. 64 k + 63`, as the loop spells its offsets. -/
theorem ld_xRows (k : Fin k1_t1_loop.trips) :
    View.ld x0 (Rect.unit (s := S1x1024x1024) (k1_off3 k) S1x64x1024.size (k1_off3_inb i k h1))
      = xRows x0 ⟨k.val, Nat.lt_of_lt_of_le k.isLt k1_t1_abs.2.1⟩ := by
  funext x
  have x0' : (x 0).val < 1 := (x 0).isLt
  refine ld_unit_at x0 _ (k1_off3_eq k) x _ fun a => ?_
  match a with
  | ⟨0, _⟩ => show 0 = 0 + (x 0).val; omega
  | ⟨1, _⟩ => rfl
  | ⟨2, _⟩ => show (x 2).val = 0 + (x 2).val; omega

/-- The codes stored by the trips before `k`, last first. -/
def codesPieces : ℕ → List (View.Piece (Elt F) S1x1024x1024 .fp8e4m3)
  | 0 => []
  | k + 1 => if h : k < k1_t1_loop.trips then
      ⟨Rect.unit (s := S1x1024x1024) (k1_off3 ⟨k, h⟩) S1x64x1024.size (k1_off3_inb i ⟨k, h⟩ h1),
        k1_pay16 (tripCodes sh sc (View.ld x0 (Rect.unit (s := S1x1024x1024) (k1_off3 ⟨k, h⟩) S1x64x1024.size (k1_off3_inb i ⟨k, h⟩ h1))))⟩ :: codesPieces k
    else codesPieces k

/-- The scales stored by the trips before `k`, last first. -/
def scalePieces : ℕ → List (View.Piece (Elt F) S1x1024x1 .f32)
  | 0 => []
  | k + 1 => if h : k < k1_t1_loop.trips then
      ⟨Rect.unit (s := S1x1024x1) (k1_off4 ⟨k, h⟩) S1x64x1.size (k1_off4_inb i ⟨k, h⟩ h1),
        k1_pay17 (tripScale sh sc (View.ld x0 (Rect.unit (s := S1x1024x1024) (k1_off3 ⟨k, h⟩) S1x64x1024.size (k1_off3_inb i ⟨k, h⟩ h1))))⟩ :: scalePieces k
    else scalePieces k

/-- The scratch rows stored by the trips before `k`, last first. -/
def scrPieces : ℕ → List (View.Piece (Elt F) S1024x128 .f32)
  | 0 => []
  | k + 1 => if h : k < k1_t1_loop.trips then
      ⟨Rect.unit (s := S1024x128) (k1_off5 ⟨k, h⟩) S64x128.size (k1_off5_inb i ⟨k, h⟩ h1),
        k1_pay18 (tripScale sh sc (View.ld x0 (Rect.unit (s := S1x1024x1024) (k1_off3 ⟨k, h⟩) S1x64x1024.size (k1_off3_inb i ⟨k, h⟩ h1))))⟩ :: scrPieces k
    else scrPieces k

/-- After `k` trips the rows before `64 k` of the codes buffer hold the sample's codes. -/
theorem read_codesPieces {κ : Kind} {sp : Space} (v : View sig κ sp S1x1024x1024 .fp8e4m3) (f : v.ty.Contents (Elt F)) :
    ∀ k : ℕ, k ≤ k1_t1_loop.trips → ∀ y : S1x1024x1024.Idx, (y 1).val < 64 * k →
      v.read (Elt F) (v.writes (Elt F) f (codesPieces i h1 sh sc x0 k)) y = codesV sh sc x0 y
  | 0, _, y, hy => absurd hy (by omega)
  | k + 1, hk, y, hy => by
    have hk' : k < k1_t1_loop.trips := hk
    rw [codesPieces, dif_pos hk', View.read_writes_cons_unit v f _ _ _ y (k1_off3_eq ⟨k, hk'⟩)]
    have y0 : (y 0).val < 1 := (y 0).isLt
    have y1 : (y 1).val < 1024 := (y 1).isLt
    have y2 : (y 2).val < 1024 := (y 2).isLt
    by_cases hlt : (y 1).val < 64 * k
    · rw [dif_neg, read_codesPieces v f k (by omega) y hlt]
      intro hh
      have := (hh 1).1
      change 64 * k ≤ (y 1).val at this
      omega
    · rw [dif_pos]
      swap
      · intro a
        match a with
        | ⟨0, _⟩ => exact ⟨Nat.zero_le _, by show (y 0).val < 0 + 1; omega⟩
        | ⟨1, _⟩ => exact ⟨by show 64 * k ≤ (y 1).val; omega, by show (y 1).val < 64 * k + 64; omega⟩
        | ⟨2, _⟩ => exact ⟨Nat.zero_le _, by show (y 2).val < 0 + 1024; omega⟩
      rw [ld_xRows i h1]
      unfold codesV
      have e1 : blkOf ⟨(y 1).val, (y 1).isLt⟩ = ⟨k, Nat.lt_of_lt_of_le hk' k1_t1_abs.2.1⟩ := Fin.ext (by show (y 1).val / 64 = k; omega)
      rw [e1]
      congr 1
      funext a
      apply Fin.ext
      match a with
      | ⟨0, _⟩ => show (y 0).val - 0 = 0; omega
      | ⟨1, _⟩ => show (y 1).val - 64 * k = (y 1).val % 64; omega
      | ⟨2, _⟩ => show (y 2).val - 0 = (y 2).val; omega

/-- After `k` trips the rows before `64 k` of the scale buffer hold the sample's scales. -/
theorem read_scalePieces {κ : Kind} {sp : Space} (v : View sig κ sp S1x1024x1 .f32) (f : v.ty.Contents (Elt F)) :
    ∀ k : ℕ, k ≤ k1_t1_loop.trips → ∀ y : S1x1024x1.Idx, (y 1).val < 64 * k →
      v.read (Elt F) (v.writes (Elt F) f (scalePieces i h1 sh sc x0 k)) y = scaleV sh sc x0 y
  | 0, _, y, hy => absurd hy (by omega)
  | k + 1, hk, y, hy => by
    have hk' : k < k1_t1_loop.trips := hk
    rw [scalePieces, dif_pos hk', View.read_writes_cons_unit v f _ _ _ y (k1_off4_eq ⟨k, hk'⟩)]
    have y0 : (y 0).val < 1 := (y 0).isLt
    have y1 : (y 1).val < 1024 := (y 1).isLt
    have y2 : (y 2).val < 1 := (y 2).isLt
    by_cases hlt : (y 1).val < 64 * k
    · rw [dif_neg, read_scalePieces v f k (by omega) y hlt]
      intro hh
      have := (hh 1).1
      change 64 * k ≤ (y 1).val at this
      omega
    · rw [dif_pos]
      swap
      · intro a
        match a with
        | ⟨0, _⟩ => exact ⟨Nat.zero_le _, by show (y 0).val < 0 + 1; omega⟩
        | ⟨1, _⟩ => exact ⟨by show 64 * k ≤ (y 1).val; omega, by show (y 1).val < 64 * k + 64; omega⟩
        | ⟨2, _⟩ => exact ⟨Nat.zero_le _, by show (y 2).val < 0 + 1; omega⟩
      rw [ld_xRows i h1]
      unfold scaleV
      have e1 : blkOf ⟨(y 1).val, (y 1).isLt⟩ = ⟨k, Nat.lt_of_lt_of_le hk' k1_t1_abs.2.1⟩ := Fin.ext (by show (y 1).val / 64 = k; omega)
      rw [e1]
      congr 1
      funext a
      apply Fin.ext
      match a with
      | ⟨0, _⟩ => show (y 0).val - 0 = 0; omega
      | ⟨1, _⟩ => show (y 1).val - 64 * k = (y 1).val % 64; omega
      | ⟨2, _⟩ => show (y 2).val - 0 = (y 2).val; omega

/-- After `k` trips the rows before `64 k` of the scratch buffer hold the sample's scales. -/
theorem read_scrPieces {κ : Kind} {sp : Space} (v : View sig κ sp S1024x128 .f32) (f : v.ty.Contents (Elt F)) :
    ∀ k : ℕ, k ≤ k1_t1_loop.trips → ∀ y : S1024x128.Idx, (y 0).val < 64 * k →
      v.read (Elt F) (v.writes (Elt F) f (scrPieces i h1 sh sc x0 k)) y = scrV sh sc x0 y
  | 0, _, y, hy => absurd hy (by omega)
  | k + 1, hk, y, hy => by
    have hk' : k < k1_t1_loop.trips := hk
    rw [scrPieces, dif_pos hk', View.read_writes_cons_unit v f _ _ _ y (k1_off5_eq ⟨k, hk'⟩)]
    have y0 : (y 0).val < 1024 := (y 0).isLt
    have y1 : (y 1).val < 128 := (y 1).isLt
    by_cases hlt : (y 0).val < 64 * k
    · rw [dif_neg, read_scrPieces v f k (by omega) y hlt]
      intro hh
      have := (hh 0).1
      change 64 * k ≤ (y 0).val at this
      omega
    · rw [dif_pos]
      swap
      · intro a
        match a with
        | ⟨0, _⟩ => exact ⟨by show 64 * k ≤ (y 0).val; omega, by show (y 0).val < 64 * k + 64; omega⟩
        | ⟨1, _⟩ => exact ⟨Nat.zero_le _, by show (y 1).val < 0 + 128; omega⟩
      rw [ld_xRows i h1]
      unfold scrV
      have e1 : blkOf ⟨(y 0).val, (y 0).isLt⟩ = ⟨k, Nat.lt_of_lt_of_le hk' k1_t1_abs.2.1⟩ := Fin.ext (by show (y 0).val / 64 = k; omega)
      rw [e1]
      congr 1
      funext a
      apply Fin.ext
      match a with
      | ⟨0, _⟩ => show (y 0).val - 64 * k = (y 0).val % 64; omega
      | ⟨1, _⟩ => show (y 1).val - 0 = (y 1).val; omega

end Loop

section LoopRun

variable (c : Dev nD) (i : grid1.Coords) (arg2 : Memref sig .tc .vmem S1x1024x1024 .bf16) (harg2 : arg2.IsWhole) (arg3 : Memref sig .tc .vmem S8x10240 .f32) (harg3 : arg3.IsWhole) (arg4 : Memref sig .tc .vmem S1024x8192 .fp8e4m3) (harg4 : arg4.IsWhole) (arg5 : Memref sig .tc .vmem S1x8192 .f32) (harg5 : arg5.IsWhole) (arg6 : Memref sig .tc .vmem S1x8192 .bf16) (harg6 : arg6.IsWhole) (arg7 : Memref sig .tc .vmem S1x1024x2048 .bf16) (harg7 : arg7.IsWhole) (arg8 : Memref sig .tc .vmem S1x1024x1024 .fp8e4m3) (harg8 : arg8.IsWhole) (arg9 : Memref sig .tc .vmem S1x1024x1 .f32) (harg9 : arg9.IsWhole) (arg10 : Memref sig .tc .vmem S1024x128 .f32) (harg10 : arg10.IsWhole)

/-- Before trip `k`: the sample's rows as they were, and the three written buffers at what they held on entry with the
    pieces of the trips before `k` written over. -/
def loopSt (h1 : k1_cond1 i = 1#1) (sh sc : Vec F S1x1024 .f32) (f2 : arg2.view.ty.Contents (Elt F)) (g8 : arg8.view.ty.Contents (Elt F)) (g9 : arg9.view.ty.Contents (Elt F)) (g10 : arg10.view.ty.Contents (Elt F)) (k : ℕ) (_u : Unit) : sProp 𝕄 :=
  iprop((arg2.view.loc (c : Thread nD τ) ↦[arg2.view.set]{fullShare} f2)
    ∗ (∃ f, (arg8.view.loc (c : Thread nD τ) ↦[arg8.view.set]{fullShare} f) ∗ ⌜f = arg8.view.writes (Elt F) g8 (codesPieces i h1 sh sc (arg2.view.read (Elt F) f2) k)⌝)
    ∗ (∃ f, (arg9.view.loc (c : Thread nD τ) ↦[arg9.view.set]{fullShare} f) ∗ ⌜f = arg9.view.writes (Elt F) g9 (scalePieces i h1 sh sc (arg2.view.read (Elt F) f2) k)⌝)
    ∗ (∃ f, (arg10.view.loc (c : Thread nD τ) ↦[arg10.view.set]{fullShare} f) ∗ ⌜f = arg10.view.writes (Elt F) g10 (scrPieces i h1 sh sc (arg2.view.read (Elt F) f2) k)⌝))

/-- One trip takes the state before it to the state before the next. -/
theorem loopStep (E : Set ℕ) (h1 : k1_cond1 i = 1#1) (sh sc : Vec F S1x1024 .f32) (f2 : arg2.view.ty.Contents (Elt F)) (g8 : arg8.view.ty.Contents (Elt F)) (g9 : arg9.view.ty.Contents (Elt F)) (g10 : arg10.view.ty.Contents (Elt F)) (k : Fin k1_t1_loop.trips) (acc : Unit) :
    loopSt c i arg2 arg8 arg9 arg10 h1 sh sc f2 g8 g9 g10 k.val acc
      ⊢ wp frame (wpE (defs₀ (F := F)) Variants.none (c : Thread nD τ) none) E (k1_t1_body (F := F) i arg2 harg2 arg3 harg3 arg4 harg4 arg5 harg5 arg6 harg6 arg7 harg7 arg8 harg8 arg9 harg9 arg10 harg10 h1 sh sc k acc)
          (loopSt c i arg2 arg8 arg9 arg10 h1 sh sc f2 g8 g9 g10 (k.val + 1)) := by
  have hk : k.val < 16 := Nat.lt_of_lt_of_le k.isLt k1_t1_abs.2.1
  unfold loopSt k1_t1_body
  iintro ⟨H2, ⟨%f8, H8, %h8⟩, ⟨%f9, H9, %h9⟩, ⟨%f10, H10, %h10⟩⟩
  subst h8 h9 h10
  sl_exec
  sl_step
  isplitl [H2]; · iexact H2
  isplitl [H8]
  · iexists _; isplitl [H8]; · iexact H8
    ipureintro
    rw [codesPieces, dif_pos k.isLt]; rfl
  isplitl [H9]
  · iexists _; isplitl [H9]; · iexact H9
    ipureintro
    rw [scalePieces, dif_pos k.isLt]; rfl
  iexists _; isplitl [H10]; · iexact H10
  ipureintro
  rw [scrPieces, dif_pos k.isLt]; rfl

set_option warn.classDefReducibility false in
/-- The loop by that invariant. -/
@[sl_loop] def loopI (E : Set ℕ) (h1 : k1_cond1 i = 1#1) (sh sc : Vec F S1x1024 .f32) (f2 : arg2.view.ty.Contents (Elt F)) (g8 : arg8.view.ty.Contents (Elt F)) (g9 : arg9.view.ty.Contents (Elt F)) (g10 : arg10.view.ty.Contents (Elt F)) :
    LoopInv (M := 𝕄) frame (wpE (defs₀ (F := F)) Variants.none (c : Thread nD τ) none) E
      k1_t1_loop.lb k1_t1_loop.ub k1_t1_loop.st (k1_t1_ok i h1) () (k1_t1_body (F := F) i arg2 harg2 arg3 harg3 arg4 harg4 arg5 harg5 arg6 harg6 arg7 harg7 arg8 harg8 arg9 harg9 arg10 harg10 h1 sh sc) where
  inv := loopSt c i arg2 arg8 arg9 arg10 h1 sh sc f2 g8 g9 g10
  step := loopStep c i arg2 harg2 arg3 harg3 arg4 harg4 arg5 harg5 arg6 harg6 arg7 harg7 arg8 harg8 arg9 harg9 arg10 harg10 E h1 sh sc f2 g8 g9 g10

/-- After the loop the three buffers hold the sample's codes, scales and scratch copy of the scales. -/
@[reducible] def loopX (E : Set ℕ) (h1 : k1_cond1 i = 1#1) (sh sc : Vec F S1x1024 .f32) (f2 : arg2.view.ty.Contents (Elt F)) (g8 : arg8.view.ty.Contents (Elt F)) (g9 : arg9.view.ty.Contents (Elt F)) (g10 : arg10.view.ty.Contents (Elt F)) :
    LoopExit (loopI c i arg2 harg2 arg3 harg3 arg4 harg4 arg5 harg5 arg6 harg6 arg7 harg7 arg8 harg8 arg9 harg9 arg10 harg10 E h1 sh sc f2 g8 g9 g10) where
  post _ := iprop((arg2.view.loc (c : Thread nD τ) ↦[arg2.view.set]{fullShare} f2)
    ∗ (arg8.view.loc (c : Thread nD τ) ↦[arg8.view.set]{fullShare} harg8.unread (codesV sh sc (arg2.view.read (Elt F) f2)))
    ∗ (arg9.view.loc (c : Thread nD τ) ↦[arg9.view.set]{fullShare} harg9.unread (scaleV sh sc (arg2.view.read (Elt F) f2)))
    ∗ (arg10.view.loc (c : Thread nD τ) ↦[arg10.view.set]{fullShare} harg10.unread (scrV sh sc (arg2.view.read (Elt F) f2))))
  exit _ := by
    show loopSt c i arg2 arg8 arg9 arg10 h1 sh sc f2 g8 g9 g10 (Scf.trips k1_t1_loop.lb k1_t1_loop.ub k1_t1_loop.st) _ ⊢ _
    unfold loopSt
    have ht : Scf.trips k1_t1_loop.lb k1_t1_loop.ub k1_t1_loop.st = 16 := by decide +kernel
    have ht' : 16 ≤ k1_t1_loop.trips := by show 16 ≤ Scf.trips k1_t1_loop.lb k1_t1_loop.ub k1_t1_loop.st; omega
    rw [ht]
    iintro ⟨H2, ⟨%f8, H8, %h8⟩, ⟨%f9, H9, %h9⟩, ⟨%f10, H10, %h10⟩⟩
    have e8 : arg8.view.read (Elt F) f8 = codesV sh sc (arg2.view.read (Elt F) f2) := by
      subst h8; funext y; exact read_codesPieces i h1 sh sc _ arg8.view g8 16 ht' y (by have h : (y 1).val < 1024 := (y 1).isLt; omega)
    have e9 : arg9.view.read (Elt F) f9 = scaleV sh sc (arg2.view.read (Elt F) f2) := by
      subst h9; funext y; exact read_scalePieces i h1 sh sc _ arg9.view g9 16 ht' y (by have h : (y 1).val < 1024 := (y 1).isLt; omega)
    have e10 : arg10.view.read (Elt F) f10 = scrV sh sc (arg2.view.read (Elt F) f2) := by
      subst h10; funext y; exact read_scrPieces i h1 sh sc _ arg10.view g10 16 ht' y (by have h : (y 0).val < 1024 := (y 0).isLt; omega)
    have u8 := harg8.eq_unread e8
    have u9 := harg9.eq_unread e9
    have u10 := harg10.eq_unread e10
    rw [u8, u9, u10]
    isplitl [H2]; · iexact H2
    isplitl [H8]; · iexact H8
    isplitl [H9]; · iexact H9
    iexact H10

end LoopRun

/-! ## The tiles of the product -/

/-- The gate's columns of the point's `n`-th tile column. -/
def gateT (i : grid1.Coords) (x1 : Vec F S8x10240 .f32) (n : Fin 4) : Vec F S1x512 .f32 := fun x =>
  x1 (ix2 (⟨(i 0).val, (i 0).isLt⟩ : Fin 8) (⟨2048 * (i 1).val + 512 * n.val + 2048 + (x 1).val, by have h1 : (i 1).val < 4 := (i 1).isLt; have := n.isLt; have h : (x 1).val < 512 := (x 1).isLt; omega⟩ : Fin 10240))

/-- A row of 8192 columns at the point's `n`-th tile column. -/
def colT {e : EltTy} (i : grid1.Coords) (x : Vec F S1x8192 e) (n : Fin 4) : Vec F S1x512 e := fun j =>
  x (ix2 (0 : Fin 1) (⟨2048 * (i 1).val + 512 * n.val + (j 1).val, by have h1 : (i 1).val < 4 := (i 1).isLt; have := n.isLt; have h : (j 1).val < 512 := (j 1).isLt; omega⟩ : Fin 8192))

/-- The weight's columns of the point's `n`-th tile column. -/
def wT (i : grid1.Coords) (x2 : Vec F S1024x8192 .fp8e4m3) (n : Fin 4) : Vec F S1024x512 .fp8e4m3 := fun j =>
  x2 (ix2 (⟨(j 0).val, (j 0).isLt⟩ : Fin 1024) (⟨2048 * (i 1).val + 512 * n.val + (j 1).val, by have h1 : (i 1).val < 4 := (i 1).isLt; have := n.isLt; have h : (j 1).val < 512 := (j 1).isLt; omega⟩ : Fin 8192))

/-- The codes of the `m`-th block of 256 rows. -/
def codesT (xc : Vec F S1x1024x1024 .fp8e4m3) (m : Fin 4) : Vec F S1x256x1024 .fp8e4m3 := fun j =>
  xc (ix3 (0 : Fin 1) (⟨256 * m.val + (j 1).val, by have := m.isLt; have h : (j 1).val < 256 := (j 1).isLt; omega⟩ : Fin 1024) (⟨(j 2).val, (j 2).isLt⟩ : Fin 1024))

/-- The scratch scales of the `m`-th block of 256 rows. -/
def scrT (xs : Vec F S1024x128 .f32) (m : Fin 4) : Vec F S256x128 .f32 := fun j =>
  xs (ix2 (⟨256 * m.val + (j 0).val, by have := m.isLt; have h : (j 0).val < 256 := (j 0).isLt; omega⟩ : Fin 1024) (⟨(j 1).val, (j 1).isLt⟩ : Fin 128))

/-- One tile of the output. -/
def yTile (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) (m n : Fin 4) : FVec F S1x256x512 .bf16 :=
  k1_pay22 (gateT i x1 n) (colT i x3 n) (colT i x4 n) (wT i x2 n) (codesT xc m) (scrT xs m)

/-- The output window after the body: each element from the tile it lies in. -/
def yV (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) : Vec F S1x1024x2048 .bf16 := fun y =>
  yTile i x1 x2 x3 x4 xc xs ⟨(y 1).val / 256, by have h : (y 1).val < 1024 := (y 1).isLt; omega⟩ ⟨(y 2).val / 512, by have h : (y 2).val < 2048 := (y 2).isLt; omega⟩
    (ix3 (0 : Fin 1) (⟨(y 1).val % 256, Nat.mod_lt _ (by decide)⟩ : Fin 256) (⟨(y 2).val % 512, Nat.mod_lt _ (by decide)⟩ : Fin 512))

theorem inbC (m : Fin 4) : ∀ a, (![0, 256 * m.val, 0] : Fin 3 → Nat) a + S1x256x1024.size a ≤ S1x1024x1024.size a := by
  revert m; decide
theorem inbS (m : Fin 4) : ∀ a, (![256 * m.val, 0] : Fin 2 → Nat) a + S256x128.size a ≤ S1024x128.size a := by
  revert m; decide
theorem inbY (m n : Fin 4) : ∀ a, (![0, 256 * m.val, 512 * n.val] : Fin 3 → Nat) a + S1x256x512.size a ≤ S1x1024x2048.size a := by
  revert m n; decide

/-- The same tile over the body's own loads. -/
def yTileL (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) (m n : Fin 4) : FVec F S1x256x512 .bf16 :=
  k1_pay22 (View.ld x1 (Rect.unit (s := S8x10240) (k1_off6 i (BitVec.ofNat 32 (512 * n.val))) S1x512.size (k1_off6_inb i n)))
    (View.ld x3 (Rect.unit (s := S1x8192) (k1_off7 i (BitVec.ofNat 32 (512 * n.val))) S1x512.size (k1_off7_inb i n)))
    (View.ld x4 (Rect.unit (s := S1x8192) (k1_off7 i (BitVec.ofNat 32 (512 * n.val))) S1x512.size (k1_off7_inb i n)))
    (View.ld x2 (Rect.unit (s := S1024x8192) (k1_off8 i (BitVec.ofNat 32 (512 * n.val))) S1024x512.size (k1_off8_inb i n)))
    (View.ld xc (Rect.unit (s := S1x1024x1024) ![0, 256 * m.val, 0] S1x256x1024.size (inbC m)))
    (View.ld xs (Rect.unit (s := S1024x128) ![256 * m.val, 0] S256x128.size (inbS m)))

theorem yTileL_eq (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) (m n : Fin 4) : yTileL i x1 x2 x3 x4 xc xs m n = yTile i x1 x2 x3 x4 xc xs m n := by
  unfold yTileL yTile
  congr 1
  · funext x
    have x0' : (x 0).val < 1 := (x 0).isLt
    refine ld_unit_at x1 _ (k1_off6_eq i n) x _ fun a => ?_
    match a with
    | ⟨0, _⟩ => show (i 0).val = (i 0).val + (x 0).val; omega
    | ⟨1, _⟩ => rfl
  · funext x
    have x0' : (x 0).val < 1 := (x 0).isLt
    refine ld_unit_at x3 _ (k1_off7_eq i n) x _ fun a => ?_
    match a with
    | ⟨0, _⟩ => show 0 = 0 + (x 0).val; omega
    | ⟨1, _⟩ => rfl
  · funext x
    have x0' : (x 0).val < 1 := (x 0).isLt
    refine ld_unit_at x4 _ (k1_off7_eq i n) x _ fun a => ?_
    match a with
    | ⟨0, _⟩ => show 0 = 0 + (x 0).val; omega
    | ⟨1, _⟩ => rfl
  · funext x
    refine ld_unit_at x2 _ (k1_off8_eq i n) x _ fun a => ?_
    match a with
    | ⟨0, _⟩ => show (x 0).val = 0 + (x 0).val; omega
    | ⟨1, _⟩ => rfl
  · funext x
    have x0' : (x 0).val < 1 := (x 0).isLt
    refine ld_unit_at xc _ rfl x _ fun a => ?_
    match a with
    | ⟨0, _⟩ => show 0 = 0 + (x 0).val; omega
    | ⟨1, _⟩ => rfl
    | ⟨2, _⟩ => show (x 2).val = 0 + (x 2).val; omega
  · funext x
    refine ld_unit_at xs _ rfl x _ fun a => ?_
    match a with
    | ⟨0, _⟩ => rfl
    | ⟨1, _⟩ => show (x 1).val = 0 + (x 1).val; omega

/-- The sixteen stores of the body, last first. -/
def yPieces (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) : List (View.Piece (Elt F) S1x1024x2048 .bf16) :=
  [⟨Rect.unit (s := S1x1024x2048) ![0, 768, 1536] S1x256x512.size inb_S1x1024x2048_S1x256x512_0_768_1536, yTileL i x1 x2 x3 x4 xc xs 3 3⟩,
    ⟨Rect.unit (s := S1x1024x2048) ![0, 512, 1536] S1x256x512.size inb_S1x1024x2048_S1x256x512_0_512_1536, yTileL i x1 x2 x3 x4 xc xs 2 3⟩,
    ⟨Rect.unit (s := S1x1024x2048) ![0, 256, 1536] S1x256x512.size inb_S1x1024x2048_S1x256x512_0_256_1536, yTileL i x1 x2 x3 x4 xc xs 1 3⟩,
    ⟨Rect.unit (s := S1x1024x2048) ![0, 0, 1536] S1x256x512.size inb_S1x1024x2048_S1x256x512_0_0_1536, yTileL i x1 x2 x3 x4 xc xs 0 3⟩,
    ⟨Rect.unit (s := S1x1024x2048) ![0, 768, 1024] S1x256x512.size inb_S1x1024x2048_S1x256x512_0_768_1024, yTileL i x1 x2 x3 x4 xc xs 3 2⟩,
    ⟨Rect.unit (s := S1x1024x2048) ![0, 512, 1024] S1x256x512.size inb_S1x1024x2048_S1x256x512_0_512_1024, yTileL i x1 x2 x3 x4 xc xs 2 2⟩,
    ⟨Rect.unit (s := S1x1024x2048) ![0, 256, 1024] S1x256x512.size inb_S1x1024x2048_S1x256x512_0_256_1024, yTileL i x1 x2 x3 x4 xc xs 1 2⟩,
    ⟨Rect.unit (s := S1x1024x2048) ![0, 0, 1024] S1x256x512.size inb_S1x1024x2048_S1x256x512_0_0_1024, yTileL i x1 x2 x3 x4 xc xs 0 2⟩,
    ⟨Rect.unit (s := S1x1024x2048) ![0, 768, 512] S1x256x512.size inb_S1x1024x2048_S1x256x512_0_768_512, yTileL i x1 x2 x3 x4 xc xs 3 1⟩,
    ⟨Rect.unit (s := S1x1024x2048) ![0, 512, 512] S1x256x512.size inb_S1x1024x2048_S1x256x512_0_512_512, yTileL i x1 x2 x3 x4 xc xs 2 1⟩,
    ⟨Rect.unit (s := S1x1024x2048) ![0, 256, 512] S1x256x512.size inb_S1x1024x2048_S1x256x512_0_256_512, yTileL i x1 x2 x3 x4 xc xs 1 1⟩,
    ⟨Rect.unit (s := S1x1024x2048) ![0, 0, 512] S1x256x512.size inb_S1x1024x2048_S1x256x512_0_0_512, yTileL i x1 x2 x3 x4 xc xs 0 1⟩,
    ⟨Rect.unit (s := S1x1024x2048) ![0, 768, 0] S1x256x512.size inb_S1x1024x2048_S1x256x512_0_768_0, yTileL i x1 x2 x3 x4 xc xs 3 0⟩,
    ⟨Rect.unit (s := S1x1024x2048) ![0, 512, 0] S1x256x512.size inb_S1x1024x2048_S1x256x512_0_512_0, yTileL i x1 x2 x3 x4 xc xs 2 0⟩,
    ⟨Rect.unit (s := S1x1024x2048) ![0, 256, 0] S1x256x512.size inb_S1x1024x2048_S1x256x512_0_256_0, yTileL i x1 x2 x3 x4 xc xs 1 0⟩,
    ⟨Rect.unit (s := S1x1024x2048) ![0, 0, 0] S1x256x512.size inb_S1x1024x2048_S1x256x512_0_0_0, yTileL i x1 x2 x3 x4 xc xs 0 0⟩]

/-- Tile `(m, n)` agrees with `yV` where it lies. -/
theorem yTileL_at (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) (m n : Fin 4) (x : (Rect.unit (s := S1x1024x2048) ![0, 256 * m.val, 512 * n.val] S1x256x512.size (inbY m n)).shape.Idx) :
    yTileL i x1 x2 x3 x4 xc xs m n x = yV i x1 x2 x3 x4 xc xs ((Rect.unit (s := S1x1024x2048) ![0, 256 * m.val, 512 * n.val] S1x256x512.size (inbY m n)).emb x) := by
  have x0' : (x 0).val < 1 := (x 0).isLt
  have x1' : (x 1).val < 256 := (x 1).isLt
  have x2' : (x 2).val < 512 := (x 2).isLt
  rw [yTileL_eq]
  unfold yV
  have em : (⟨((Rect.unit (s := S1x1024x2048) ![0, 256 * m.val, 512 * n.val] S1x256x512.size (inbY m n)).emb x 1).val / 256, by have h := ((Rect.unit (s := S1x1024x2048) ![0, 256 * m.val, 512 * n.val] S1x256x512.size (inbY m n)).emb x 1).isLt; change _ < 1024 at h; omega⟩ : Fin 4) = m :=
    Fin.ext (by show (256 * m.val + 1 * (x 1).val) / 256 = m.val; omega)
  have en : (⟨((Rect.unit (s := S1x1024x2048) ![0, 256 * m.val, 512 * n.val] S1x256x512.size (inbY m n)).emb x 2).val / 512, by have h := ((Rect.unit (s := S1x1024x2048) ![0, 256 * m.val, 512 * n.val] S1x256x512.size (inbY m n)).emb x 2).isLt; change _ < 2048 at h; omega⟩ : Fin 4) = n :=
    Fin.ext (by show (512 * n.val + 1 * (x 2).val) / 512 = n.val; omega)
  rw [em, en]
  congr 1
  funext a
  apply Fin.ext
  match a with
  | ⟨0, _⟩ => show (x 0).val = 0; omega
  | ⟨1, _⟩ => show (x 1).val = (256 * m.val + 1 * (x 1).val) % 256; omega
  | ⟨2, _⟩ => show (x 2).val = (512 * n.val + 1 * (x 2).val) % 512; omega

/-- After the sixteen stores the output window holds `yV`. -/
theorem read_yPieces {κ : Kind} {sp : Space} (v : View sig κ sp S1x1024x2048 .bf16) (f : v.ty.Contents (Elt F)) (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) :
    v.read (Elt F) (v.writes (Elt F) f (yPieces i x1 x2 x3 x4 xc xs)) = yV i x1 x2 x3 x4 xc xs := by
  have hc : ∀ y : S1x1024x2048.Idx, ∃ p ∈ yPieces i x1 x2 x3 x4 xc xs, y ∈ p.1.set := fun y =>
    View.cover_of_tiled (s := S1x1024x2048) (yPieces i x1 x2 x3 x4 xc xs) S1x256x512.size (by rfl) y
  rw [View.read_writes_eq_canon _ _ _ hc]
  funext y
  refine View.canon_apply_of_pieces (yV i x1 x2 x3 x4 xc xs) _ (fun p hp => ?_) y (hc y)
  unfold yPieces at hp
  simp only [List.mem_cons, List.not_mem_nil, or_false] at hp
  rcases hp with rfl | rfl | rfl | rfl | rfl | rfl | rfl | rfl | rfl | rfl | rfl | rfl | rfl | rfl | rfl | rfl
  · exact fun x => yTileL_at i x1 x2 x3 x4 xc xs 3 3 x
  · exact fun x => yTileL_at i x1 x2 x3 x4 xc xs 2 3 x
  · exact fun x => yTileL_at i x1 x2 x3 x4 xc xs 1 3 x
  · exact fun x => yTileL_at i x1 x2 x3 x4 xc xs 0 3 x
  · exact fun x => yTileL_at i x1 x2 x3 x4 xc xs 3 2 x
  · exact fun x => yTileL_at i x1 x2 x3 x4 xc xs 2 2 x
  · exact fun x => yTileL_at i x1 x2 x3 x4 xc xs 1 2 x
  · exact fun x => yTileL_at i x1 x2 x3 x4 xc xs 0 2 x
  · exact fun x => yTileL_at i x1 x2 x3 x4 xc xs 3 1 x
  · exact fun x => yTileL_at i x1 x2 x3 x4 xc xs 2 1 x
  · exact fun x => yTileL_at i x1 x2 x3 x4 xc xs 1 1 x
  · exact fun x => yTileL_at i x1 x2 x3 x4 xc xs 0 1 x
  · exact fun x => yTileL_at i x1 x2 x3 x4 xc xs 3 0 x
  · exact fun x => yTileL_at i x1 x2 x3 x4 xc xs 2 0 x
  · exact fun x => yTileL_at i x1 x2 x3 x4 xc xs 1 0 x
  · exact fun x => yTileL_at i x1 x2 x3 x4 xc xs 0 0 x

/-- The two loads of the modulation row, as plain rows. -/
theorem ld_mod1 (i : grid1.Coords) (h1 : k1_cond1 i = 1#1) (x1 : Vec F S8x10240 .f32) :
    View.ld x1 (Rect.unit (s := S8x10240) (k1_off1 i) S1x1024.size (k1_off1_inb i h1)) = modRow x1 i ⟨0, by decide⟩ := by
  funext x
  have x0' : (x 0).val < 1 := (x 0).isLt
  refine ld_unit_at x1 _ (k1_off1_eq i) x _ fun a => ?_
  match a with
  | ⟨0, _⟩ => show (i 0).val = (i 0).val + (x 0).val; omega
  | ⟨1, _⟩ => rfl
theorem ld_mod2 (i : grid1.Coords) (h1 : k1_cond1 i = 1#1) (x1 : Vec F S8x10240 .f32) :
    View.ld x1 (Rect.unit (s := S8x10240) (k1_off2 i) S1x1024.size (k1_off2_inb i h1)) = modRow x1 i ⟨1024, by decide⟩ := by
  funext x
  have x0' : (x 0).val < 1 := (x 0).isLt
  refine ld_unit_at x1 _ (k1_off2_eq i) x _ fun a => ?_
  match a with
  | ⟨0, _⟩ => show (i 0).val = (i 0).val + (x 0).val; omega
  | ⟨1, _⟩ => rfl
theorem codesV_ld (i : grid1.Coords) (h1 : k1_cond1 i = 1#1) (x0 : Vec F S1x1024x1024 .bf16) (x1 : Vec F S8x10240 .f32) :
    codesV (View.ld x1 (Rect.unit (s := S8x10240) (k1_off1 i) S1x1024.size (k1_off1_inb i h1))) (View.ld x1 (Rect.unit (s := S8x10240) (k1_off2 i) S1x1024.size (k1_off2_inb i h1))) x0
      = codesV (modRow x1 i ⟨0, by decide⟩) (modRow x1 i ⟨1024, by decide⟩) x0 := by rw [ld_mod1 i h1, ld_mod2 i h1]
theorem scaleV_ld (i : grid1.Coords) (h1 : k1_cond1 i = 1#1) (x0 : Vec F S1x1024x1024 .bf16) (x1 : Vec F S8x10240 .f32) :
    scaleV (View.ld x1 (Rect.unit (s := S8x10240) (k1_off1 i) S1x1024.size (k1_off1_inb i h1))) (View.ld x1 (Rect.unit (s := S8x10240) (k1_off2 i) S1x1024.size (k1_off2_inb i h1))) x0
      = scaleV (modRow x1 i ⟨0, by decide⟩) (modRow x1 i ⟨1024, by decide⟩) x0 := by rw [ld_mod1 i h1, ld_mod2 i h1]
theorem scrV_ld (i : grid1.Coords) (h1 : k1_cond1 i = 1#1) (x0 : Vec F S1x1024x1024 .bf16) (x1 : Vec F S8x10240 .f32) :
    scrV (View.ld x1 (Rect.unit (s := S8x10240) (k1_off1 i) S1x1024.size (k1_off1_inb i h1))) (View.ld x1 (Rect.unit (s := S8x10240) (k1_off2 i) S1x1024.size (k1_off2_inb i h1))) x0
      = scrV (modRow x1 i ⟨0, by decide⟩) (modRow x1 i ⟨1024, by decide⟩) x0 := by rw [ld_mod1 i h1, ld_mod2 i h1]

/-! ## The body -/

theorem yV_congr (i : grid1.Coords) (x1 : Vec F S8x10240 .f32) (x2 : Vec F S1024x8192 .fp8e4m3) (x3 : Vec F S1x8192 .f32) (x4 : Vec F S1x8192 .bf16)
    {xc xc' : Vec F S1x1024x1024 .fp8e4m3} {xs xs' : Vec F S1024x128 .f32} (hc : xc = xc') (hs : xs = xs') :
    yV i x1 x2 x3 x4 xc xs = yV i x1 x2 x3 x4 xc' xs' := by rw [hc, hs]

attribute [local instance] loopX in
set_option maxHeartbeats 1000000 in
/-- The body at a sample's first point: from the inputs' windows at `x0 … x4` and the others at anything, to the output window at
    `yV`, the codes and scale windows at the sample's codes and scales and the scratch at the scales over 128 lanes. -/
theorem bodyFirst (c : Dev nD) (i : grid1.Coords) (arg2 : Memref sig .tc .vmem S1x1024x1024 .bf16) (harg2 : arg2.IsWhole) (arg3 : Memref sig .tc .vmem S8x10240 .f32) (harg3 : arg3.IsWhole) (arg4 : Memref sig .tc .vmem S1024x8192 .fp8e4m3) (harg4 : arg4.IsWhole) (arg5 : Memref sig .tc .vmem S1x8192 .f32) (harg5 : arg5.IsWhole) (arg6 : Memref sig .tc .vmem S1x8192 .bf16) (harg6 : arg6.IsWhole) (arg7 : Memref sig .tc .vmem S1x1024x2048 .bf16) (harg7 : arg7.IsWhole) (arg8 : Memref sig .tc .vmem S1x1024x1024 .fp8e4m3) (harg8 : arg8.IsWhole) (arg9 : Memref sig .tc .vmem S1x1024x1 .f32) (harg9 : arg9.IsWhole) (arg10 : Memref sig .tc .vmem S1024x128 .f32) (harg10 : arg10.IsWhole) (h1 : k1_cond1 i = 1#1)
    (x0 : Vec F S1x1024x1024 .bf16) (x1 : Vec F S8x10240 .f32) (x2 : Vec F S1024x8192 .fp8e4m3) (x3 : Vec F S1x8192 .f32) (x4 : Vec F S1x8192 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (yV i x1 x2 x3 x4 (codesV (modRow x1 i ⟨0, by decide⟩) (modRow x1 i ⟨1024, by decide⟩) x0) (scrV (modRow x1 i ⟨0, by decide⟩) (modRow x1 i ⟨1024, by decide⟩) x0)) ∗ owns (c : Thread nD τ) arg8 fullShare (codesV (modRow x1 i ⟨0, by decide⟩) (modRow x1 i ⟨1024, by decide⟩) x0) ∗ owns (c : Thread nD τ) arg9 fullShare (scaleV (modRow x1 i ⟨0, by decide⟩) (modRow x1 i ⟨1024, by decide⟩) x0) ∗ owns (c : Thread nD τ) arg10 fullShare (scrV (modRow x1 i ⟨0, by decide⟩) (modRow x1 i ⟨1024, by decide⟩) x0)) -∗ K ⟨⟩))
          ⊢ wp frame (wpE (defs₀ (F := F)) Variants.none c none) E (cc1_adaln_fp8_linear i arg2 harg2 arg3 harg3 arg4 harg4 arg5 harg5 arg6 harg6 arg7 harg7 arg8 harg8 arg9 harg9 arg10 harg10) K := by
    intro E K
    simp only [cc1_adaln_fp8_linear_eq_skeleton]; unfold cc1_adaln_fp8_linear_skel
    simp only [k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    subst hf0 hf1 hf2 hf3 hf4
    sl_exec (disch := first | sl_exact h1)
    sl_step
    iapply Hk
    isplitl [HL0]
    · iexists f0; isplitr; · ipureintro; rfl
      iexact HL0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      exact (read_yPieces arg7.view f5 i (arg3.view.read (Elt F) f1) (arg4.view.read (Elt F) f2) (arg5.view.read (Elt F) f3) (arg6.view.read (Elt F) f4) _ _).trans
        (yV_congr i _ _ _ _ ((harg8.read_unread _).trans (codesV_ld i h1 _ (arg3.view.read (Elt F) f1))) ((harg10.read_unread _).trans (scrV_ld i h1 _ (arg3.view.read (Elt F) f1))))
    isplitl [HL1]
    · iexists _; isplitr; swap; · iexact HL1
      ipureintro; exact (harg8.read_unread _).trans (codesV_ld i h1 _ (arg3.view.read (Elt F) f1))
    isplitl [HL2]
    · iexists _; isplitr; swap; · iexact HL2
      ipureintro; exact (harg9.read_unread _).trans (scaleV_ld i h1 _ (arg3.view.read (Elt F) f1))
    iexists _; isplitr; swap; · iexact HL3
    ipureintro; exact (harg10.read_unread _).trans (scrV_ld i h1 _ (arg3.view.read (Elt F) f1))

set_option maxHeartbeats 1000000 in
/-- The body at a later point of a sample: the codes, scale and scratch buffers are only read, the output window is filled
    from them. -/
theorem bodyNext (c : Dev nD) (i : grid1.Coords) (arg2 : Memref sig .tc .vmem S1x1024x1024 .bf16) (harg2 : arg2.IsWhole) (arg3 : Memref sig .tc .vmem S8x10240 .f32) (harg3 : arg3.IsWhole) (arg4 : Memref sig .tc .vmem S1024x8192 .fp8e4m3) (harg4 : arg4.IsWhole) (arg5 : Memref sig .tc .vmem S1x8192 .f32) (harg5 : arg5.IsWhole) (arg6 : Memref sig .tc .vmem S1x8192 .bf16) (harg6 : arg6.IsWhole) (arg7 : Memref sig .tc .vmem S1x1024x2048 .bf16) (harg7 : arg7.IsWhole) (arg8 : Memref sig .tc .vmem S1x1024x1024 .fp8e4m3) (harg8 : arg8.IsWhole) (arg9 : Memref sig .tc .vmem S1x1024x1 .f32) (harg9 : arg9.IsWhole) (arg10 : Memref sig .tc .vmem S1024x128 .f32) (harg10 : arg10.IsWhole) (h1 : ¬ k1_cond1 i = 1#1)
    (x0 : Vec F S1x1024x1024 .bf16) (x1 : Vec F S8x10240 .f32) (x2 : Vec F S1024x8192 .fp8e4m3) (x3 : Vec F S1x8192 .f32) (x4 : Vec F S1x8192 .bf16) (xc : Vec F S1x1024x1024 .fp8e4m3) (xl : Vec F S1x1024x1 .f32) (xs : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xc ∗ owns (c : Thread nD τ) arg9 fullShare xl ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (yV i x1 x2 x3 x4 xc xs) ∗ owns (c : Thread nD τ) arg8 fullShare xc ∗ owns (c : Thread nD τ) arg9 fullShare xl ∗ owns (c : Thread nD τ) arg10 fullShare xs) -∗ K ⟨⟩))
          ⊢ wp frame (wpE (defs₀ (F := F)) Variants.none c none) E (cc1_adaln_fp8_linear i arg2 harg2 arg3 harg3 arg4 harg4 arg5 harg5 arg6 harg6 arg7 harg7 arg8 harg8 arg9 harg9 arg10 harg10) K := by
    intro E K
    simp only [cc1_adaln_fp8_linear_eq_skeleton]; unfold cc1_adaln_fp8_linear_skel
    simp only [k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hk⟩
    subst hf0 hf1 hf2 hf3 hf4 hf6 hf7 hfs0
    sl_exec (disch := first | sl_exact h1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      exact read_yPieces arg7.view f5 i (arg3.view.read (Elt F) f1) (arg4.view.read (Elt F) f2) (arg5.view.read (Elt F) f3) (arg6.view.read (Elt F) f4) (arg8.view.read (Elt F) f6) (arg10.view.read (Elt F) fs0)
    isplitl [H6]
    · iexists f6; isplitr; · ipureintro; rfl
      iexact H6
    isplitl [H7]
    · iexists f7; isplitr; · ipureintro; rfl
      iexact H7
    iexists fs0; isplitr; · ipureintro; rfl
    iexact HS0

end Cert.Kernel.Hand

end
-- ==== Proof.RunBits.lean ====
/- The two launches of `proofs.«01_k».proof.Kernel`, at any float semantics: per launch the proof data (what each window's
   buffer holds after the body at each grid point) and the body obligation, then the run of @main from the launch to the return and
   the frame claim. The second launch keeps the codes, the scales and the scratch scales from a sample's first point on: the windows
   of the codes and scales are idle at its later points, and the invariant says what the scratch holds. -/
module

public import proofs.«01_k».proof.Proof.BodyBits
public import Idealize.ShloMosaic.Lib.Pipeline.RegionsLoop
public import Idealize.ShloMosaic.Lib.Pipeline.FrameSuffix
public import Idealize.ShloMosaic.Lib.Pipeline.TableIdle

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_adaln_mod` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S8x1024 := Rect.unit (s := S8x1024) ![0, 0] S8x1024.size inb_S8x1024_S8x1024_0_0
abbrev r0_1 : Rect S1024x2048 := Rect.unit (s := S1024x2048) ![0, 0] S1024x2048.size inb_S1024x2048_S1024x2048_0_0
abbrev r0_2 : Rect S8x2048 := Rect.unit (s := S8x2048) ![0, 0] S8x2048.size inb_S8x2048_S8x2048_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S8x1024 .bf16) (x1 : Vec F S1024x2048 .bf16) : Vec F S8x2048 .f32 :=
  View.canon [⟨r0_2, k0_pay1 (View.ld x0 r0_0) (View.ld x1 r0_1)⟩]

/-- Its stores tile the buffer (checked by evaluation), so they cover it. -/
theorem cover0_2 (p0 : Vec F S8x2048 .f32) (y : S8x2048.Idx) :
    ∃ pc ∈ ([⟨r0_2, p0⟩] : List (View.Piece (Elt F) S8x2048 .f32)), y ∈ pc.1.set :=
  View.cover_of_tiled [⟨r0_2, p0⟩] S8x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S8x1024 .bf16) (harg1 : arg1.IsWhole) (arg2 : Memref sig .tc .vmem S1024x2048 .bf16) (harg2 : arg2.IsWhole) (arg3 : Memref sig .tc .vmem S8x2048 .f32) (harg3 : arg3.IsWhole)
    (x0 : Vec F S8x1024 .bf16) (x1 : Vec F S1024x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_adaln_mod i arg1 harg1 arg2 harg2 arg3 harg3) K := by
  simp only [cc0_adaln_mod_eq_skeleton]; unfold cc0_adaln_mod_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_adaln_fp8_linear` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Where the body's branch runs, and what that makes of the windows of the codes and the scales -/

/-- The body quantises at the points ≡ 0 (mod 4): a sample's first. -/
theorem hcond1 : ∀ t : Fin cfg1.N, k1_cond1 (grid1.coords t) = 1#1 ↔ t.val % 4 = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [k1_cond1, e0, e1]
    word_cmp
   : ∀ t : Fin grid1.N, k1_cond1 (grid1.coords t) = 1#1 ↔ t.val % 4 = 0)

theorem idle6 (t : Fin cfg1.N) : cfg1.idle 6 (grid1.coords t) = true ↔ t.val % 4 ≠ 0 := by
  rw [Ne, ← hcond1 t]
  show (!(k1_cond1 (grid1.coords t) == 1#1)) = true ↔ _
  rw [Bool.not_eq_true', beq_eq_false_iff_ne]
theorem idle7 (t : Fin cfg1.N) : cfg1.idle 7 (grid1.coords t) = true ↔ t.val % 4 ≠ 0 := by
  rw [Ne, ← hcond1 t]
  show (!(k1_cond1 (grid1.coords t) == 1#1)) = true ↔ _
  rw [Bool.not_eq_true', beq_eq_false_iff_ne]

/-- A window written back at the points ≡ 3 and idle off the points ≡ 0 (mod 4) has a fresh buffer at the points ≡ 0. -/
theorem fresh_iff (w : Fin cfg1.W) (hf : ∀ t, (cfg1.win w).flush t = true ↔ t.val % 4 = 3)
    (hi : ∀ t : Fin cfg1.N, cfg1.idle w (grid1.coords t) = true ↔ t.val % 4 ≠ 0) :
    ∀ n, n ≤ cfg1.N → (cfg1.fresh w n = true ↔ n % 4 = 0)
  | 0, _ => by rw [Cfg.fresh_zero]; simp
  | n + 1, h => by
    rw [Cfg.fresh_succ cfg1 w n h, Bool.or_eq_true, Bool.and_eq_true, hf, fresh_iff w hf hi n (Nat.le_of_succ_le h)]
    rw [show (cfg1.idle w (cfg1.grid.coords ⟨n, h⟩) = true) ↔ n % 4 ≠ 0 from hi ⟨n, h⟩]
    show n % 4 = 3 ∨ n % 4 ≠ 0 ∧ n % 4 = 0 ↔ (n + 1) % 4 = 0
    omega

/-! ## The pipeline's proof data -/

/-- The first point of the sample of point `t`. -/
def base (t : Fin cfg1.N) : Fin cfg1.N := ⟨t.val / 4 * 4, Nat.lt_of_le_of_lt (Nat.div_mul_le_self _ _) t.isLt⟩
theorem base_first {t : Fin cfg1.N} (h : t.val % 4 = 0) : base t = t := Fin.ext (by show t.val / 4 * 4 = t.val; omega)
theorem base_next {t : Fin cfg1.N} (h : t.val % 4 ≠ 0) {n : Nat} (hn : n + 1 = t.val) (hn' : n < cfg1.N) : base ⟨n, hn'⟩ = base t :=
  Fin.ext (by show n / 4 * 4 = t.val / 4 * 4; omega)

/-- The shift and scale rows of the sample of point `t`, -/
abbrev shAt (c : Dev nD) (t : Fin cfg1.N) : Vec F S1x1024 .f32 := modRow (iblk1 V c 1 (base t)) (grid1.coords (base t)) ⟨0, by decide⟩
abbrev scAt (c : Dev nD) (t : Fin cfg1.N) : Vec F S1x1024 .f32 := modRow (iblk1 V c 1 (base t)) (grid1.coords (base t)) ⟨1024, by decide⟩
/-- its codes, its scales and its scales over 128 lanes, each from the windows of the sample's first point. -/
def codesAt (c : Dev nD) (t : Fin cfg1.N) : Vec F S1x1024x1024 .fp8e4m3 := codesV (shAt V c t) (scAt V c t) (iblk1 V c 0 (base t))
def scaleAt (c : Dev nD) (t : Fin cfg1.N) : Vec F S1x1024x1 .f32 := scaleV (shAt V c t) (scAt V c t) (iblk1 V c 0 (base t))
def scrAt (c : Dev nD) (t : Fin cfg1.N) : Vec F S1024x128 .f32 := scrV (shAt V c t) (scAt V c t) (iblk1 V c 0 (base t))
def yAt (c : Dev nD) (t : Fin cfg1.N) : Vec F S1x1024x2048 .bf16 :=
  yV (grid1.coords t) (iblk1 V c 1 t) (iblk1 V c 2 t) (iblk1 V c 3 t) (iblk1 V c 4 t) (codesAt V c t) (scrAt V c t)

/-- The scoped buffers of the other launch. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `n`: after the first point the scratch holds the scales of the point before's sample. -/
def Phi1 (c : Dev nD) (n : Nat) : sProp 𝕄 :=
  iprop((∃ d, ⌜∀ k (hk : k + 1 = n) (hk' : k < cfg1.N), d = scrAt V c ⟨k, hk'⟩⌝ ∗ owns (c : Thread nD τ) (Memref.whole cc1_scratch0) fullShare d)
    ∗ others c ∗ ∃ r, prngReg c r)

/-- The proof data of the second launch on core `c`: the arrays as the launch finds them (`V`); after the body at point `t` each
    input's buffer at its block, the output's at `yAt`, the codes' and scales' at those of the point's sample; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => yAt V c t
    | ⟨6, _⟩ => codesAt V c t
    | ⟨7, _⟩ => scaleAt V c t
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = yAt V c t := by dsimp only [dat1]
theorem after1_6 (c : Dev nD) (t : Fin cfg1.N) : (dat1 V c).after 6 t = codesAt V c t := by dsimp only [dat1]
theorem after1_7 (c : Dev nD) (t : Fin cfg1.N) : (dat1 V c).after 7 t = scaleAt V c t := by dsimp only [dat1]

/-- Off a sample's first point the codes' buffer holds the sample's codes, -/
theorem before1_6 (c : Dev nD) (t : Fin cfg1.N) (ht : t.val % 4 ≠ 0) (d) : (dat1 V c).before 6 t d = codesAt V c t := by
  have hN : ∀ s : Fin cfg1.N, s.val ≤ cfg1.N := fun s => Nat.le_of_lt s.isLt
  rw [(dat1 V c).before_out_traj 6 rfl (fun _ _ => rfl) (fun s hs hi hfr => ?_) t.val t rfl d]
  · rw [if_neg (fun h => ht ((fresh_iff 6 flush1_6 idle6 t.val (hN t)).mp h)), after1_6]
    unfold codesAt shAt scAt; rw [base_next ht (n := t.val - 1) (by omega) (by omega)]
  · have hs4 := (idle6 s).mp hi
    rw [after1_6, after1_6]; unfold codesAt shAt scAt; rw [base_next hs4 (n := s.val - 1) (by omega) (by omega)]
/-- and the scales' buffer its scales. -/
theorem before1_7 (c : Dev nD) (t : Fin cfg1.N) (ht : t.val % 4 ≠ 0) (d) : (dat1 V c).before 7 t d = scaleAt V c t := by
  have hN : ∀ s : Fin cfg1.N, s.val ≤ cfg1.N := fun s => Nat.le_of_lt s.isLt
  rw [(dat1 V c).before_out_traj 7 rfl (fun _ _ => rfl) (fun s hs hi hfr => ?_) t.val t rfl d]
  · rw [if_neg (fun h => ht ((fresh_iff 7 flush1_7 idle7 t.val (hN t)).mp h)), after1_7]
    unfold scaleAt shAt scAt; rw [base_next ht (n := t.val - 1) (by omega) (by omega)]
  · have hs4 := (idle7 s).mp hi
    rw [after1_7, after1_7]; unfold scaleAt shAt scAt; rw [base_next hs4 (n := s.val - 1) (by omega) (by omega)]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leavesExact 6 t
    ∗ (dat1 V c).leavesExact 7 t)

theorem scr_first (c : Dev nD) (t : Fin cfg1.N) (h : t.val % 4 = 0) :
    scrV (modRow (iblk1 V c 1 t) (grid1.coords t) ⟨0, by decide⟩) (modRow (iblk1 V c 1 t) (grid1.coords t) ⟨1024, by decide⟩) (iblk1 V c 0 t) = scrAt V c t := by
  unfold scrAt shAt scAt; rw [base_first h]
theorem codes_first (c : Dev nD) (t : Fin cfg1.N) (h : t.val % 4 = 0) :
    codesV (modRow (iblk1 V c 1 t) (grid1.coords t) ⟨0, by decide⟩) (modRow (iblk1 V c 1 t) (grid1.coords t) ⟨1024, by decide⟩) (iblk1 V c 0 t) = codesAt V c t := by
  unfold codesAt shAt scAt; rw [base_first h]
theorem scale_first (c : Dev nD) (t : Fin cfg1.N) (h : t.val % 4 = 0) :
    scaleV (modRow (iblk1 V c 1 t) (grid1.coords t) ⟨0, by decide⟩) (modRow (iblk1 V c 1 t) (grid1.coords t) ⟨1024, by decide⟩) (iblk1 V c 0 t) = scaleAt V c t := by
  unfold scaleAt shAt scAt; rw [base_first h]
theorem scr_next (c : Dev nD) (t : Fin cfg1.N) (h : t.val % 4 ≠ 0) {k : Nat} (hk : k + 1 = t.val) (hk' : k < cfg1.N) :
    scrAt V c ⟨k, hk'⟩ = scrAt V c t := by
  unfold scrAt shAt scAt; rw [base_next h hk hk']

/-- The body at any point of the second launch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = Phi1 V c (t.val + 1) from rfl, show (dat1 V c).Φ t.castSucc = Phi1 V c t.val from rfl,
    show (dat1 V c).owesAt () t.succ = (dat1 V c).owesAt () t.castSucc from rfl,
    after1_0, after1_1, after1_2, after1_3, after1_4, after1_5]
  unfold Phi1
  by_cases h4 : t.val % 4 = 0
  · have i6 : cfg1.idle 6 (cfg1.grid.coords t) = false := Bool.eq_false_iff.mpr fun h => (idle6 t).mp h h4
    have i7 : cfg1.idle 7 (cfg1.grid.coords t) = false := Bool.eq_false_iff.mpr fun h => (idle7 t).mp h h4
    rw [show (dat1 V c).leavesExact 6 t = owns (c : Thread nD τ) (st1_6 t) fullShare (codesAt V c t) from by
        unfold Dat.leavesExact; rw [i6, after1_6],
      show (dat1 V c).leavesExact 7 t = owns (c : Thread nD τ) (st1_7 t) fullShare (scaleAt V c t) from by
        unfold Dat.leavesExact; rw [i7, after1_7]]
    rw [yAt, ← codes_first V c t h4, ← scale_first V c t h4, ← scr_first V c t h4]
    iintro ⟨⟨⟨%ds, -, HS⟩, Hoth⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyFirst c (grid1.coords t) _ _ _ _ _ _ _ _ _ _ _ _ _ _ _ _ _ _ ((hcond1 t).mpr h4) (iblk1 V c 0 t) (iblk1 V c 1 t) (iblk1 V c 2 t) (iblk1 V c 3 t) (iblk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexists _; iexact HS
    iintro ⟨H0, H1, H2, H3, H4, H5, H6, H7, HS⟩
    isplitl [HS Hoth]
    · isplitl [HS]
      · iexists _
        isplitr; swap; · iexact HS
        ipureintro
        intro k hk hk'
        obtain rfl : k = t.val := by omega
        exact scr_first V c t h4
      iexact Hoth
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have i6 : cfg1.idle 6 (cfg1.grid.coords t) = true := (idle6 t).mpr h4
    have i7 : cfg1.idle 7 (cfg1.grid.coords t) = true := (idle7 t).mpr h4
    have hl6 : owns (c : Thread nD τ) (st1_6 t) fullShare (codesAt V c t) ⊢ (dat1 V c).leavesExact 6 t := by
      unfold Dat.leavesExact; rw [i6]
      cases (cfg1.win 6).flush t
      · iintro H; iexists codesAt V c t; rw [before1_6 V c t h4]; iexact H
      · rw [after1_6]
    have hl7 : owns (c : Thread nD τ) (st1_7 t) fullShare (scaleAt V c t) ⊢ (dat1 V c).leavesExact 7 t := by
      unfold Dat.leavesExact; rw [i7]
      cases (cfg1.win 7).flush t
      · iintro H; iexists scaleAt V c t; rw [before1_7 V c t h4]; iexact H
      · rw [after1_7]
    simp only [before1_6 V c t h4, before1_7 V c t h4]
    rw [yAt]
    iintro ⟨⟨⟨%ds, %hds, HS⟩, Hoth⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hs : ds = scrAt V c t := (hds (t.val - 1) (by omega) (by omega)).trans (scr_next V c t h4 (by omega) (by omega))
    subst hs
    iapply (bodyNext c (grid1.coords t) _ _ _ _ _ _ _ _ _ _ _ _ _ _ _ _ _ _ (fun h => h4 ((hcond1 t).mp h)) (iblk1 V c 0 t) (iblk1 V c 1 t) (iblk1 V c 2 t) (iblk1 V c 3 t) (iblk1 V c 4 t) (codesAt V c t) (scaleAt V c t) (scrAt V c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    iintro ⟨H0, H1, H2, H3, H4, H5, H6, H7, HS⟩
    isplitl [HS Hoth]
    · isplitl [HS]
      · iexists _
        isplitr; swap; · iexact HS
        ipureintro
        intro k hk hk'
        obtain rfl : k = t.val := by omega
        rfl
      iexact Hoth
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply hl6; iexact H6
    iapply hl7; iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation of the second launch, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The scoped buffers no window stages, with the generator register, are the invariant before the first point, -/
theorem phi_in (c : Dev nD) : iprop((∃ r, prngReg c r) ∗ Pipeline.scopedRest (Ix := Unit) (Name := ℕ) (U := UR sig nD τ) (Lvl := ℕ) (Val := Elt F) spec1 c) ⊢ Phi1 V c 0 := by
  rw [scopedRest1_eq]; unfold Phi1 others; simp only [owns_whole]
  iintro ⟨Hp, A, B, C, D, E, ⟨%f, G⟩⟩
  isplitl [G]
  · iexists f
    isplitr; · ipureintro; intro k hk; omega
    iexact G
  isplitr [Hp]; swap; · iexact Hp
  isplitl [A]; · iexact A
  isplitl [B]; · iexact B
  isplitl [C]; · iexact C
  isplitl [D]; · iexact D
  iexact E
/-- and they come back from it after any. -/
theorem phi_out (c : Dev nD) (n : Nat) : Phi1 V c n ⊢ iprop((∃ r, prngReg c r) ∗ Pipeline.scopedRest (Ix := Unit) (Name := ℕ) (U := UR sig nD τ) (Lvl := ℕ) (Val := Elt F) spec1 c) := by
  rw [scopedRest1_eq]; unfold Phi1 others; simp only [owns_whole]
  iintro ⟨⟨%f, -, G⟩, ⟨A, B, C, D, E⟩, Hp⟩
  isplitl [Hp]; · iexact Hp
  isplitl [A]; · iexact A
  isplitl [B]; · iexact B
  isplitl [C]; · iexact C
  isplitl [D]; · iexact D
  isplitl [E]; · iexact E
  iexists f; iexact G

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V2 m ρ) c 0 from rfl]
    iintro ⟨Hp, -, Hr⟩
    iapply (phi_in (V2 m ρ) c)
    isplitl [Hp]; · iexact Hp
    iexact Hr
  hout c := by
    rw [Pipeline.ownSems0_none, show (pdats m ρ 1 c).Φ (Fin.last _) = Phi1 (V2 m ρ) c (Fin.last cfg1.N).val from rfl]
    iintro H
    ihave H := (phi_out (V2 m ρ) c _) $$ H
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: every weakly fair execution of @main terminates, nothing faulting, and every final state has each unscoped buffer at the
    last boundary's contents `W3` and every semaphore counter at zero. -/
theorem run_full : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- THE FRAME: every weakly fair execution of @main terminates, nothing faulting, and every final state has the argument arrays as
    launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c),
       (h.1 c _ (mem_uc main_arg5 (by decide))).trans (W3_main_arg5 m ρ c)⟩, h.2⟩) (run_full m ρ)

end Cert.Kernel.Hand

end
-- ==== Proof.BodyIdeal.lean ====
/-
  The second kernel's body (`adaln_fp8_linear`), run at one grid point.

  At the first point of a sample (`k1_cond1 i = 1#1`) the body quantises the sample's 1024 rows, sixty-four at a time, into
  the codes and scale windows and a scratch copy of the scales; at every point it then multiplies the codes by a
  2048-column panel of the weight, in sixteen tiles of 256 rows by 512 columns.  The definitions below name what each
  buffer holds afterwards as plain functions of the index; `bodyFirst` and `bodyNext` state the two runs.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.ValueIdxCore
public import Idealize.ShloMosaic.Lib.WritesUnit
public import Idealize.ShloMosaic.Lib.Exec
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-! ## What the buffers hold after the body, as functions of the index -/

/-- Columns `o .. o + 1023` of the modulation row of the point's sample. -/
def modRow (x1 : Vec F S8x10240 .f32) (i : grid1.Coords) (o : Fin 9217) : Vec F S1x1024 .f32 := fun x =>
  x1 (ix2 (⟨(i 0).val, (i 0).isLt⟩ : Fin 8) (⟨o.val + (x 1).val, by have := o.isLt; have h : (x 1).val < 1024 := (x 1).isLt; omega⟩ : Fin 10240))

/-- Rows `64 k .. 64 k + 63` of the sample. -/
def xRows (x0 : Vec F S1x1024x1024 .bf16) (k : Fin 16) : Vec F S1x64x1024 .bf16 := fun x =>
  x0 (ix3 (0 : Fin 1) (⟨64 * k.val + (x 1).val, by have := k.isLt; have h : (x 1).val < 64 := (x 1).isLt; omega⟩ : Fin 1024) (⟨(x 2).val, (x 2).isLt⟩ : Fin 1024))

/-- The scale column of one block of sixty-four rows: its power of two, from the row's greatest magnitude. -/
def tripScale (sh sc : Vec F S1x1024 .f32) (v : Vec F S1x64x1024 .bf16) : FVec F S64x1 .f32 :=
  k1_pay12 (k1_pay4 (k1_pay14 sh) (k1_pay15 sc) v)
    (k1_pay9 (k1_pay5 (k1_pay14 sh) (k1_pay15 sc) v) (k1_pay6 (k1_pay14 sh) (k1_pay15 sc) v) (k1_pay7 (k1_pay14 sh) (k1_pay15 sc) v) k1_pay8) k1_pay10

/-- The codes of one block of sixty-four rows. -/
def tripCodes (sh sc : Vec F S1x1024 .f32) (v : Vec F S1x64x1024 .bf16) : FVec F S64x1024 .fp8e4m3 :=
  k1_pay13 (k1_pay3 (k1_pay14 sh) (k1_pay15 sc) v) (k1_pay4 (k1_pay14 sh) (k1_pay15 sc) v)
    (k1_pay9 (k1_pay5 (k1_pay14 sh) (k1_pay15 sc) v) (k1_pay6 (k1_pay14 sh) (k1_pay15 sc) v) (k1_pay7 (k1_pay14 sh) (k1_pay15 sc) v) k1_pay8) k1_pay10

/-- The block of sixty-four rows a row lies in. -/
def blkOf (r : Fin 1024) : Fin 16 := ⟨r.val / 64, by omega⟩
/-- Its place in that block. -/
def locOf (r : Fin 1024) : Fin 64 := ⟨r.val % 64, Nat.mod_lt _ (by decide)⟩

/-- The codes of the whole sample. -/
def codesV (sh sc : Vec F S1x1024 .f32) (x0 : Vec F S1x1024x1024 .bf16) : Vec F S1x1024x1024 .fp8e4m3 := fun y =>
  k1_pay16 (tripCodes sh sc (xRows x0 (blkOf ⟨(y 1).val, (y 1).isLt⟩))) (ix3 (0 : Fin 1) (locOf ⟨(y 1).val, (y 1).isLt⟩) (⟨(y 2).val, (y 2).isLt⟩ : Fin 1024))

/-- The scales of the whole sample. -/
def scaleV (sh sc : Vec F S1x1024 .f32) (x0 : Vec F S1x1024x1024 .bf16) : Vec F S1x1024x1 .f32 := fun y =>
  k1_pay17 (tripScale sh sc (xRows x0 (blkOf ⟨(y 1).val, (y 1).isLt⟩))) (ix3 (0 : Fin 1) (locOf ⟨(y 1).val, (y 1).isLt⟩) (⟨(y 2).val, (y 2).isLt⟩ : Fin 1))

/-- The scales of the whole sample, each over 128 lanes: the scratch buffer. -/
def scrV (sh sc : Vec F S1x1024 .f32) (x0 : Vec F S1x1024x1024 .bf16) : Vec F S1024x128 .f32 := fun y =>
  k1_pay18 (tripScale sh sc (xRows x0 (blkOf ⟨(y 0).val, (y 0).isLt⟩))) (ix2 (locOf ⟨(y 0).val, (y 0).isLt⟩) (⟨(y 1).val, (y 1).isLt⟩ : Fin 128))

/-- A load through a unit rectangle reads the buffer at the offsets plus the local index. -/
theorem ld_unit_at {s : Shape} {e : EltTy} (x : s.Idx → Elt F e) {off off' size : Fin s.rank → ℕ}
    (inb : ∀ a, off a + size a ≤ s.size a) (h : off = off') (j : (Rect.unit off size inb).shape.Idx) (y : s.Idx)
    (hy : ∀ a, (y a).val = off' a + (j a).val) : View.ld (Val := Elt F) (e' := e) x (Rect.unit off size inb) j = x y := by
  subst h
  show x _ = x _
  congr 1
  funext a
  apply Fin.ext
  show off a + 1 * (j a).val = (y a).val
  rw [hy a]; omega

/-! ## The loop over the sixteen blocks of rows -/

section Loop

variable (i : grid1.Coords) (h1 : k1_cond1 i = 1#1) (sh sc : Vec F S1x1024 .f32) (x0 : Vec F S1x1024x1024 .bf16)

/-- A load of rows `64 k .. 64 k + 63`, as the loop spells its offsets. -/
theorem ld_xRows (k : Fin k1_t1_loop.trips) :
    View.ld x0 (Rect.unit (s := S1x1024x1024) (k1_off3 k) S1x64x1024.size (k1_off3_inb i k h1))
      = xRows x0 ⟨k.val, Nat.lt_of_lt_of_le k.isLt k1_t1_abs.2.1⟩ := by
  funext x
  have x0' : (x 0).val < 1 := (x 0).isLt
  refine ld_unit_at x0 _ (k1_off3_eq k) x _ fun a => ?_
  match a with
  | ⟨0, _⟩ => show 0 = 0 + (x 0).val; omega
  | ⟨1, _⟩ => rfl
  | ⟨2, _⟩ => show (x 2).val = 0 + (x 2).val; omega

/-- The codes stored by the trips before `k`, last first. -/
def codesPieces : ℕ → List (View.Piece (Elt F) S1x1024x1024 .fp8e4m3)
  | 0 => []
  | k + 1 => if h : k < k1_t1_loop.trips then
      ⟨Rect.unit (s := S1x1024x1024) (k1_off3 ⟨k, h⟩) S1x64x1024.size (k1_off3_inb i ⟨k, h⟩ h1),
        k1_pay16 (tripCodes sh sc (View.ld x0 (Rect.unit (s := S1x1024x1024) (k1_off3 ⟨k, h⟩) S1x64x1024.size (k1_off3_inb i ⟨k, h⟩ h1))))⟩ :: codesPieces k
    else codesPieces k

/-- The scales stored by the trips before `k`, last first. -/
def scalePieces : ℕ → List (View.Piece (Elt F) S1x1024x1 .f32)
  | 0 => []
  | k + 1 => if h : k < k1_t1_loop.trips then
      ⟨Rect.unit (s := S1x1024x1) (k1_off4 ⟨k, h⟩) S1x64x1.size (k1_off4_inb i ⟨k, h⟩ h1),
        k1_pay17 (tripScale sh sc (View.ld x0 (Rect.unit (s := S1x1024x1024) (k1_off3 ⟨k, h⟩) S1x64x1024.size (k1_off3_inb i ⟨k, h⟩ h1))))⟩ :: scalePieces k
    else scalePieces k

/-- The scratch rows stored by the trips before `k`, last first. -/
def scrPieces : ℕ → List (View.Piece (Elt F) S1024x128 .f32)
  | 0 => []
  | k + 1 => if h : k < k1_t1_loop.trips then
      ⟨Rect.unit (s := S1024x128) (k1_off5 ⟨k, h⟩) S64x128.size (k1_off5_inb i ⟨k, h⟩ h1),
        k1_pay18 (tripScale sh sc (View.ld x0 (Rect.unit (s := S1x1024x1024) (k1_off3 ⟨k, h⟩) S1x64x1024.size (k1_off3_inb i ⟨k, h⟩ h1))))⟩ :: scrPieces k
    else scrPieces k

/-- After `k` trips the rows before `64 k` of the codes buffer hold the sample's codes. -/
theorem read_codesPieces {κ : Kind} {sp : Space} (v : View sig κ sp S1x1024x1024 .fp8e4m3) (f : v.ty.Contents (Elt F)) :
    ∀ k : ℕ, k ≤ k1_t1_loop.trips → ∀ y : S1x1024x1024.Idx, (y 1).val < 64 * k →
      v.read (Elt F) (v.writes (Elt F) f (codesPieces i h1 sh sc x0 k)) y = codesV sh sc x0 y
  | 0, _, y, hy => absurd hy (by omega)
  | k + 1, hk, y, hy => by
    have hk' : k < k1_t1_loop.trips := hk
    rw [codesPieces, dif_pos hk', View.read_writes_cons_unit v f _ _ _ y (k1_off3_eq ⟨k, hk'⟩)]
    have y0 : (y 0).val < 1 := (y 0).isLt
    have y1 : (y 1).val < 1024 := (y 1).isLt
    have y2 : (y 2).val < 1024 := (y 2).isLt
    by_cases hlt : (y 1).val < 64 * k
    · rw [dif_neg, read_codesPieces v f k (by omega) y hlt]
      intro hh
      have := (hh 1).1
      change 64 * k ≤ (y 1).val at this
      omega
    · rw [dif_pos]
      swap
      · intro a
        match a with
        | ⟨0, _⟩ => exact ⟨Nat.zero_le _, by show (y 0).val < 0 + 1; omega⟩
        | ⟨1, _⟩ => exact ⟨by show 64 * k ≤ (y 1).val; omega, by show (y 1).val < 64 * k + 64; omega⟩
        | ⟨2, _⟩ => exact ⟨Nat.zero_le _, by show (y 2).val < 0 + 1024; omega⟩
      rw [ld_xRows i h1]
      unfold codesV
      have e1 : blkOf ⟨(y 1).val, (y 1).isLt⟩ = ⟨k, Nat.lt_of_lt_of_le hk' k1_t1_abs.2.1⟩ := Fin.ext (by show (y 1).val / 64 = k; omega)
      rw [e1]
      congr 1
      funext a
      apply Fin.ext
      match a with
      | ⟨0, _⟩ => show (y 0).val - 0 = 0; omega
      | ⟨1, _⟩ => show (y 1).val - 64 * k = (y 1).val % 64; omega
      | ⟨2, _⟩ => show (y 2).val - 0 = (y 2).val; omega

/-- After `k` trips the rows before `64 k` of the scale buffer hold the sample's scales. -/
theorem read_scalePieces {κ : Kind} {sp : Space} (v : View sig κ sp S1x1024x1 .f32) (f : v.ty.Contents (Elt F)) :
    ∀ k : ℕ, k ≤ k1_t1_loop.trips → ∀ y : S1x1024x1.Idx, (y 1).val < 64 * k →
      v.read (Elt F) (v.writes (Elt F) f (scalePieces i h1 sh sc x0 k)) y = scaleV sh sc x0 y
  | 0, _, y, hy => absurd hy (by omega)
  | k + 1, hk, y, hy => by
    have hk' : k < k1_t1_loop.trips := hk
    rw [scalePieces, dif_pos hk', View.read_writes_cons_unit v f _ _ _ y (k1_off4_eq ⟨k, hk'⟩)]
    have y0 : (y 0).val < 1 := (y 0).isLt
    have y1 : (y 1).val < 1024 := (y 1).isLt
    have y2 : (y 2).val < 1 := (y 2).isLt
    by_cases hlt : (y 1).val < 64 * k
    · rw [dif_neg, read_scalePieces v f k (by omega) y hlt]
      intro hh
      have := (hh 1).1
      change 64 * k ≤ (y 1).val at this
      omega
    · rw [dif_pos]
      swap
      · intro a
        match a with
        | ⟨0, _⟩ => exact ⟨Nat.zero_le _, by show (y 0).val < 0 + 1; omega⟩
        | ⟨1, _⟩ => exact ⟨by show 64 * k ≤ (y 1).val; omega, by show (y 1).val < 64 * k + 64; omega⟩
        | ⟨2, _⟩ => exact ⟨Nat.zero_le _, by show (y 2).val < 0 + 1; omega⟩
      rw [ld_xRows i h1]
      unfold scaleV
      have e1 : blkOf ⟨(y 1).val, (y 1).isLt⟩ = ⟨k, Nat.lt_of_lt_of_le hk' k1_t1_abs.2.1⟩ := Fin.ext (by show (y 1).val / 64 = k; omega)
      rw [e1]
      congr 1
      funext a
      apply Fin.ext
      match a with
      | ⟨0, _⟩ => show (y 0).val - 0 = 0; omega
      | ⟨1, _⟩ => show (y 1).val - 64 * k = (y 1).val % 64; omega
      | ⟨2, _⟩ => show (y 2).val - 0 = (y 2).val; omega

/-- After `k` trips the rows before `64 k` of the scratch buffer hold the sample's scales. -/
theorem read_scrPieces {κ : Kind} {sp : Space} (v : View sig κ sp S1024x128 .f32) (f : v.ty.Contents (Elt F)) :
    ∀ k : ℕ, k ≤ k1_t1_loop.trips → ∀ y : S1024x128.Idx, (y 0).val < 64 * k →
      v.read (Elt F) (v.writes (Elt F) f (scrPieces i h1 sh sc x0 k)) y = scrV sh sc x0 y
  | 0, _, y, hy => absurd hy (by omega)
  | k + 1, hk, y, hy => by
    have hk' : k < k1_t1_loop.trips := hk
    rw [scrPieces, dif_pos hk', View.read_writes_cons_unit v f _ _ _ y (k1_off5_eq ⟨k, hk'⟩)]
    have y0 : (y 0).val < 1024 := (y 0).isLt
    have y1 : (y 1).val < 128 := (y 1).isLt
    by_cases hlt : (y 0).val < 64 * k
    · rw [dif_neg, read_scrPieces v f k (by omega) y hlt]
      intro hh
      have := (hh 0).1
      change 64 * k ≤ (y 0).val at this
      omega
    · rw [dif_pos]
      swap
      · intro a
        match a with
        | ⟨0, _⟩ => exact ⟨by show 64 * k ≤ (y 0).val; omega, by show (y 0).val < 64 * k + 64; omega⟩
        | ⟨1, _⟩ => exact ⟨Nat.zero_le _, by show (y 1).val < 0 + 128; omega⟩
      rw [ld_xRows i h1]
      unfold scrV
      have e1 : blkOf ⟨(y 0).val, (y 0).isLt⟩ = ⟨k, Nat.lt_of_lt_of_le hk' k1_t1_abs.2.1⟩ := Fin.ext (by show (y 0).val / 64 = k; omega)
      rw [e1]
      congr 1
      funext a
      apply Fin.ext
      match a with
      | ⟨0, _⟩ => show (y 0).val - 64 * k = (y 0).val % 64; omega
      | ⟨1, _⟩ => show (y 1).val - 0 = (y 1).val; omega

end Loop

section LoopRun

variable (c : Dev nD) (i : grid1.Coords) (arg2 : Memref sig .tc .vmem S1x1024x1024 .bf16) (harg2 : arg2.IsWhole) (arg3 : Memref sig .tc .vmem S8x10240 .f32) (harg3 : arg3.IsWhole) (arg4 : Memref sig .tc .vmem S1024x8192 .fp8e4m3) (harg4 : arg4.IsWhole) (arg5 : Memref sig .tc .vmem S1x8192 .f32) (harg5 : arg5.IsWhole) (arg6 : Memref sig .tc .vmem S1x8192 .bf16) (harg6 : arg6.IsWhole) (arg7 : Memref sig .tc .vmem S1x1024x2048 .bf16) (harg7 : arg7.IsWhole) (arg8 : Memref sig .tc .vmem S1x1024x1024 .fp8e4m3) (harg8 : arg8.IsWhole) (arg9 : Memref sig .tc .vmem S1x1024x1 .f32) (harg9 : arg9.IsWhole) (arg10 : Memref sig .tc .vmem S1024x128 .f32) (harg10 : arg10.IsWhole)

/-- Before trip `k`: the sample's rows as they were, and the three written buffers at what they held on entry with the
    pieces of the trips before `k` written over. -/
def loopSt (h1 : k1_cond1 i = 1#1) (sh sc : Vec F S1x1024 .f32) (f2 : arg2.view.ty.Contents (Elt F)) (g8 : arg8.view.ty.Contents (Elt F)) (g9 : arg9.view.ty.Contents (Elt F)) (g10 : arg10.view.ty.Contents (Elt F)) (k : ℕ) (_u : Unit) : sProp 𝕄 :=
  iprop((arg2.view.loc (c : Thread nD τ) ↦[arg2.view.set]{fullShare} f2)
    ∗ (∃ f, (arg8.view.loc (c : Thread nD τ) ↦[arg8.view.set]{fullShare} f) ∗ ⌜f = arg8.view.writes (Elt F) g8 (codesPieces i h1 sh sc (arg2.view.read (Elt F) f2) k)⌝)
    ∗ (∃ f, (arg9.view.loc (c : Thread nD τ) ↦[arg9.view.set]{fullShare} f) ∗ ⌜f = arg9.view.writes (Elt F) g9 (scalePieces i h1 sh sc (arg2.view.read (Elt F) f2) k)⌝)
    ∗ (∃ f, (arg10.view.loc (c : Thread nD τ) ↦[arg10.view.set]{fullShare} f) ∗ ⌜f = arg10.view.writes (Elt F) g10 (scrPieces i h1 sh sc (arg2.view.read (Elt F) f2) k)⌝))

/-- One trip takes the state before it to the state before the next. -/
theorem loopStep (E : Set ℕ) (h1 : k1_cond1 i = 1#1) (sh sc : Vec F S1x1024 .f32) (f2 : arg2.view.ty.Contents (Elt F)) (g8 : arg8.view.ty.Contents (Elt F)) (g9 : arg9.view.ty.Contents (Elt F)) (g10 : arg10.view.ty.Contents (Elt F)) (k : Fin k1_t1_loop.trips) (acc : Unit) :
    loopSt c i arg2 arg8 arg9 arg10 h1 sh sc f2 g8 g9 g10 k.val acc
      ⊢ wp frame (wpE (defs₀ (F := F)) Variants.none (c : Thread nD τ) none) E (k1_t1_body (F := F) i arg2 harg2 arg3 harg3 arg4 harg4 arg5 harg5 arg6 harg6 arg7 harg7 arg8 harg8 arg9 harg9 arg10 harg10 h1 sh sc k acc)
          (loopSt c i arg2 arg8 arg9 arg10 h1 sh sc f2 g8 g9 g10 (k.val + 1)) := by
  have hk : k.val < 16 := Nat.lt_of_lt_of_le k.isLt k1_t1_abs.2.1
  unfold loopSt k1_t1_body
  iintro ⟨H2, ⟨%f8, H8, %h8⟩, ⟨%f9, H9, %h9⟩, ⟨%f10, H10, %h10⟩⟩
  subst h8 h9 h10
  sl_exec
  sl_step
  isplitl [H2]; · iexact H2
  isplitl [H8]
  · iexists _; isplitl [H8]; · iexact H8
    ipureintro
    rw [codesPieces, dif_pos k.isLt]; rfl
  isplitl [H9]
  · iexists _; isplitl [H9]; · iexact H9
    ipureintro
    rw [scalePieces, dif_pos k.isLt]; rfl
  iexists _; isplitl [H10]; · iexact H10
  ipureintro
  rw [scrPieces, dif_pos k.isLt]; rfl

set_option warn.classDefReducibility false in
/-- The loop by that invariant. -/
@[sl_loop] def loopI (E : Set ℕ) (h1 : k1_cond1 i = 1#1) (sh sc : Vec F S1x1024 .f32) (f2 : arg2.view.ty.Contents (Elt F)) (g8 : arg8.view.ty.Contents (Elt F)) (g9 : arg9.view.ty.Contents (Elt F)) (g10 : arg10.view.ty.Contents (Elt F)) :
    LoopInv (M := 𝕄) frame (wpE (defs₀ (F := F)) Variants.none (c : Thread nD τ) none) E
      k1_t1_loop.lb k1_t1_loop.ub k1_t1_loop.st (k1_t1_ok i h1) () (k1_t1_body (F := F) i arg2 harg2 arg3 harg3 arg4 harg4 arg5 harg5 arg6 harg6 arg7 harg7 arg8 harg8 arg9 harg9 arg10 harg10 h1 sh sc) where
  inv := loopSt c i arg2 arg8 arg9 arg10 h1 sh sc f2 g8 g9 g10
  step := loopStep c i arg2 harg2 arg3 harg3 arg4 harg4 arg5 harg5 arg6 harg6 arg7 harg7 arg8 harg8 arg9 harg9 arg10 harg10 E h1 sh sc f2 g8 g9 g10

/-- After the loop the three buffers hold the sample's codes, scales and scratch copy of the scales. -/
@[reducible] def loopX (E : Set ℕ) (h1 : k1_cond1 i = 1#1) (sh sc : Vec F S1x1024 .f32) (f2 : arg2.view.ty.Contents (Elt F)) (g8 : arg8.view.ty.Contents (Elt F)) (g9 : arg9.view.ty.Contents (Elt F)) (g10 : arg10.view.ty.Contents (Elt F)) :
    LoopExit (loopI c i arg2 harg2 arg3 harg3 arg4 harg4 arg5 harg5 arg6 harg6 arg7 harg7 arg8 harg8 arg9 harg9 arg10 harg10 E h1 sh sc f2 g8 g9 g10) where
  post _ := iprop((arg2.view.loc (c : Thread nD τ) ↦[arg2.view.set]{fullShare} f2)
    ∗ (arg8.view.loc (c : Thread nD τ) ↦[arg8.view.set]{fullShare} harg8.unread (codesV sh sc (arg2.view.read (Elt F) f2)))
    ∗ (arg9.view.loc (c : Thread nD τ) ↦[arg9.view.set]{fullShare} harg9.unread (scaleV sh sc (arg2.view.read (Elt F) f2)))
    ∗ (arg10.view.loc (c : Thread nD τ) ↦[arg10.view.set]{fullShare} harg10.unread (scrV sh sc (arg2.view.read (Elt F) f2))))
  exit _ := by
    show loopSt c i arg2 arg8 arg9 arg10 h1 sh sc f2 g8 g9 g10 (Scf.trips k1_t1_loop.lb k1_t1_loop.ub k1_t1_loop.st) _ ⊢ _
    unfold loopSt
    have ht : Scf.trips k1_t1_loop.lb k1_t1_loop.ub k1_t1_loop.st = 16 := by decide +kernel
    have ht' : 16 ≤ k1_t1_loop.trips := by show 16 ≤ Scf.trips k1_t1_loop.lb k1_t1_loop.ub k1_t1_loop.st; omega
    rw [ht]
    iintro ⟨H2, ⟨%f8, H8, %h8⟩, ⟨%f9, H9, %h9⟩, ⟨%f10, H10, %h10⟩⟩
    have e8 : arg8.view.read (Elt F) f8 = codesV sh sc (arg2.view.read (Elt F) f2) := by
      subst h8; funext y; exact read_codesPieces i h1 sh sc _ arg8.view g8 16 ht' y (by have h : (y 1).val < 1024 := (y 1).isLt; omega)
    have e9 : arg9.view.read (Elt F) f9 = scaleV sh sc (arg2.view.read (Elt F) f2) := by
      subst h9; funext y; exact read_scalePieces i h1 sh sc _ arg9.view g9 16 ht' y (by have h : (y 1).val < 1024 := (y 1).isLt; omega)
    have e10 : arg10.view.read (Elt F) f10 = scrV sh sc (arg2.view.read (Elt F) f2) := by
      subst h10; funext y; exact read_scrPieces i h1 sh sc _ arg10.view g10 16 ht' y (by have h : (y 0).val < 1024 := (y 0).isLt; omega)
    have u8 := harg8.eq_unread e8
    have u9 := harg9.eq_unread e9
    have u10 := harg10.eq_unread e10
    rw [u8, u9, u10]
    isplitl [H2]; · iexact H2
    isplitl [H8]; · iexact H8
    isplitl [H9]; · iexact H9
    iexact H10

end LoopRun

/-! ## The tiles of the product -/

/-- The gate's columns of the point's `n`-th tile column. -/
def gateT (i : grid1.Coords) (x1 : Vec F S8x10240 .f32) (n : Fin 4) : Vec F S1x512 .f32 := fun x =>
  x1 (ix2 (⟨(i 0).val, (i 0).isLt⟩ : Fin 8) (⟨2048 * (i 1).val + 512 * n.val + 2048 + (x 1).val, by have h1 : (i 1).val < 4 := (i 1).isLt; have := n.isLt; have h : (x 1).val < 512 := (x 1).isLt; omega⟩ : Fin 10240))

/-- A row of 8192 columns at the point's `n`-th tile column. -/
def colT {e : EltTy} (i : grid1.Coords) (x : Vec F S1x8192 e) (n : Fin 4) : Vec F S1x512 e := fun j =>
  x (ix2 (0 : Fin 1) (⟨2048 * (i 1).val + 512 * n.val + (j 1).val, by have h1 : (i 1).val < 4 := (i 1).isLt; have := n.isLt; have h : (j 1).val < 512 := (j 1).isLt; omega⟩ : Fin 8192))

/-- The weight's columns of the point's `n`-th tile column. -/
def wT (i : grid1.Coords) (x2 : Vec F S1024x8192 .fp8e4m3) (n : Fin 4) : Vec F S1024x512 .fp8e4m3 := fun j =>
  x2 (ix2 (⟨(j 0).val, (j 0).isLt⟩ : Fin 1024) (⟨2048 * (i 1).val + 512 * n.val + (j 1).val, by have h1 : (i 1).val < 4 := (i 1).isLt; have := n.isLt; have h : (j 1).val < 512 := (j 1).isLt; omega⟩ : Fin 8192))

/-- The codes of the `m`-th block of 256 rows. -/
def codesT (xc : Vec F S1x1024x1024 .fp8e4m3) (m : Fin 4) : Vec F S1x256x1024 .fp8e4m3 := fun j =>
  xc (ix3 (0 : Fin 1) (⟨256 * m.val + (j 1).val, by have := m.isLt; have h : (j 1).val < 256 := (j 1).isLt; omega⟩ : Fin 1024) (⟨(j 2).val, (j 2).isLt⟩ : Fin 1024))

/-- The scratch scales of the `m`-th block of 256 rows. -/
def scrT (xs : Vec F S1024x128 .f32) (m : Fin 4) : Vec F S256x128 .f32 := fun j =>
  xs (ix2 (⟨256 * m.val + (j 0).val, by have := m.isLt; have h : (j 0).val < 256 := (j 0).isLt; omega⟩ : Fin 1024) (⟨(j 1).val, (j 1).isLt⟩ : Fin 128))

/-- One tile of the output. -/
def yTile (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) (m n : Fin 4) : FVec F S1x256x512 .bf16 :=
  k1_pay22 (gateT i x1 n) (colT i x3 n) (colT i x4 n) (wT i x2 n) (codesT xc m) (scrT xs m)

/-- The output window after the body: each element from the tile it lies in. -/
def yV (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) : Vec F S1x1024x2048 .bf16 := fun y =>
  yTile i x1 x2 x3 x4 xc xs ⟨(y 1).val / 256, by have h : (y 1).val < 1024 := (y 1).isLt; omega⟩ ⟨(y 2).val / 512, by have h : (y 2).val < 2048 := (y 2).isLt; omega⟩
    (ix3 (0 : Fin 1) (⟨(y 1).val % 256, Nat.mod_lt _ (by decide)⟩ : Fin 256) (⟨(y 2).val % 512, Nat.mod_lt _ (by decide)⟩ : Fin 512))

theorem inbC (m : Fin 4) : ∀ a, (![0, 256 * m.val, 0] : Fin 3 → Nat) a + S1x256x1024.size a ≤ S1x1024x1024.size a := by
  revert m; decide
theorem inbS (m : Fin 4) : ∀ a, (![256 * m.val, 0] : Fin 2 → Nat) a + S256x128.size a ≤ S1024x128.size a := by
  revert m; decide
theorem inbY (m n : Fin 4) : ∀ a, (![0, 256 * m.val, 512 * n.val] : Fin 3 → Nat) a + S1x256x512.size a ≤ S1x1024x2048.size a := by
  revert m n; decide

/-- The same tile over the body's own loads. -/
def yTileL (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) (m n : Fin 4) : FVec F S1x256x512 .bf16 :=
  k1_pay22 (View.ld x1 (Rect.unit (s := S8x10240) (k1_off6 i (BitVec.ofNat 32 (512 * n.val))) S1x512.size (k1_off6_inb i n)))
    (View.ld x3 (Rect.unit (s := S1x8192) (k1_off7 i (BitVec.ofNat 32 (512 * n.val))) S1x512.size (k1_off7_inb i n)))
    (View.ld x4 (Rect.unit (s := S1x8192) (k1_off7 i (BitVec.ofNat 32 (512 * n.val))) S1x512.size (k1_off7_inb i n)))
    (View.ld x2 (Rect.unit (s := S1024x8192) (k1_off8 i (BitVec.ofNat 32 (512 * n.val))) S1024x512.size (k1_off8_inb i n)))
    (View.ld xc (Rect.unit (s := S1x1024x1024) ![0, 256 * m.val, 0] S1x256x1024.size (inbC m)))
    (View.ld xs (Rect.unit (s := S1024x128) ![256 * m.val, 0] S256x128.size (inbS m)))

theorem yTileL_eq (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) (m n : Fin 4) : yTileL i x1 x2 x3 x4 xc xs m n = yTile i x1 x2 x3 x4 xc xs m n := by
  unfold yTileL yTile
  congr 1
  · funext x
    have x0' : (x 0).val < 1 := (x 0).isLt
    refine ld_unit_at x1 _ (k1_off6_eq i n) x _ fun a => ?_
    match a with
    | ⟨0, _⟩ => show (i 0).val = (i 0).val + (x 0).val; omega
    | ⟨1, _⟩ => rfl
  · funext x
    have x0' : (x 0).val < 1 := (x 0).isLt
    refine ld_unit_at x3 _ (k1_off7_eq i n) x _ fun a => ?_
    match a with
    | ⟨0, _⟩ => show 0 = 0 + (x 0).val; omega
    | ⟨1, _⟩ => rfl
  · funext x
    have x0' : (x 0).val < 1 := (x 0).isLt
    refine ld_unit_at x4 _ (k1_off7_eq i n) x _ fun a => ?_
    match a with
    | ⟨0, _⟩ => show 0 = 0 + (x 0).val; omega
    | ⟨1, _⟩ => rfl
  · funext x
    refine ld_unit_at x2 _ (k1_off8_eq i n) x _ fun a => ?_
    match a with
    | ⟨0, _⟩ => show (x 0).val = 0 + (x 0).val; omega
    | ⟨1, _⟩ => rfl
  · funext x
    have x0' : (x 0).val < 1 := (x 0).isLt
    refine ld_unit_at xc _ rfl x _ fun a => ?_
    match a with
    | ⟨0, _⟩ => show 0 = 0 + (x 0).val; omega
    | ⟨1, _⟩ => rfl
    | ⟨2, _⟩ => show (x 2).val = 0 + (x 2).val; omega
  · funext x
    refine ld_unit_at xs _ rfl x _ fun a => ?_
    match a with
    | ⟨0, _⟩ => rfl
    | ⟨1, _⟩ => show (x 1).val = 0 + (x 1).val; omega

/-- The sixteen stores of the body, last first. -/
def yPieces (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) : List (View.Piece (Elt F) S1x1024x2048 .bf16) :=
  [⟨Rect.unit (s := S1x1024x2048) ![0, 768, 1536] S1x256x512.size inb_S1x1024x2048_S1x256x512_0_768_1536, yTileL i x1 x2 x3 x4 xc xs 3 3⟩,
    ⟨Rect.unit (s := S1x1024x2048) ![0, 512, 1536] S1x256x512.size inb_S1x1024x2048_S1x256x512_0_512_1536, yTileL i x1 x2 x3 x4 xc xs 2 3⟩,
    ⟨Rect.unit (s := S1x1024x2048) ![0, 256, 1536] S1x256x512.size inb_S1x1024x2048_S1x256x512_0_256_1536, yTileL i x1 x2 x3 x4 xc xs 1 3⟩,
    ⟨Rect.unit (s := S1x1024x2048) ![0, 0, 1536] S1x256x512.size inb_S1x1024x2048_S1x256x512_0_0_1536, yTileL i x1 x2 x3 x4 xc xs 0 3⟩,
    ⟨Rect.unit (s := S1x1024x2048) ![0, 768, 1024] S1x256x512.size inb_S1x1024x2048_S1x256x512_0_768_1024, yTileL i x1 x2 x3 x4 xc xs 3 2⟩,
    ⟨Rect.unit (s := S1x1024x2048) ![0, 512, 1024] S1x256x512.size inb_S1x1024x2048_S1x256x512_0_512_1024, yTileL i x1 x2 x3 x4 xc xs 2 2⟩,
    ⟨Rect.unit (s := S1x1024x2048) ![0, 256, 1024] S1x256x512.size inb_S1x1024x2048_S1x256x512_0_256_1024, yTileL i x1 x2 x3 x4 xc xs 1 2⟩,
    ⟨Rect.unit (s := S1x1024x2048) ![0, 0, 1024] S1x256x512.size inb_S1x1024x2048_S1x256x512_0_0_1024, yTileL i x1 x2 x3 x4 xc xs 0 2⟩,
    ⟨Rect.unit (s := S1x1024x2048) ![0, 768, 512] S1x256x512.size inb_S1x1024x2048_S1x256x512_0_768_512, yTileL i x1 x2 x3 x4 xc xs 3 1⟩,
    ⟨Rect.unit (s := S1x1024x2048) ![0, 512, 512] S1x256x512.size inb_S1x1024x2048_S1x256x512_0_512_512, yTileL i x1 x2 x3 x4 xc xs 2 1⟩,
    ⟨Rect.unit (s := S1x1024x2048) ![0, 256, 512] S1x256x512.size inb_S1x1024x2048_S1x256x512_0_256_512, yTileL i x1 x2 x3 x4 xc xs 1 1⟩,
    ⟨Rect.unit (s := S1x1024x2048) ![0, 0, 512] S1x256x512.size inb_S1x1024x2048_S1x256x512_0_0_512, yTileL i x1 x2 x3 x4 xc xs 0 1⟩,
    ⟨Rect.unit (s := S1x1024x2048) ![0, 768, 0] S1x256x512.size inb_S1x1024x2048_S1x256x512_0_768_0, yTileL i x1 x2 x3 x4 xc xs 3 0⟩,
    ⟨Rect.unit (s := S1x1024x2048) ![0, 512, 0] S1x256x512.size inb_S1x1024x2048_S1x256x512_0_512_0, yTileL i x1 x2 x3 x4 xc xs 2 0⟩,
    ⟨Rect.unit (s := S1x1024x2048) ![0, 256, 0] S1x256x512.size inb_S1x1024x2048_S1x256x512_0_256_0, yTileL i x1 x2 x3 x4 xc xs 1 0⟩,
    ⟨Rect.unit (s := S1x1024x2048) ![0, 0, 0] S1x256x512.size inb_S1x1024x2048_S1x256x512_0_0_0, yTileL i x1 x2 x3 x4 xc xs 0 0⟩]

/-- Tile `(m, n)` agrees with `yV` where it lies. -/
theorem yTileL_at (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) (m n : Fin 4) (x : (Rect.unit (s := S1x1024x2048) ![0, 256 * m.val, 512 * n.val] S1x256x512.size (inbY m n)).shape.Idx) :
    yTileL i x1 x2 x3 x4 xc xs m n x = yV i x1 x2 x3 x4 xc xs ((Rect.unit (s := S1x1024x2048) ![0, 256 * m.val, 512 * n.val] S1x256x512.size (inbY m n)).emb x) := by
  have x0' : (x 0).val < 1 := (x 0).isLt
  have x1' : (x 1).val < 256 := (x 1).isLt
  have x2' : (x 2).val < 512 := (x 2).isLt
  rw [yTileL_eq]
  unfold yV
  have em : (⟨((Rect.unit (s := S1x1024x2048) ![0, 256 * m.val, 512 * n.val] S1x256x512.size (inbY m n)).emb x 1).val / 256, by have h := ((Rect.unit (s := S1x1024x2048) ![0, 256 * m.val, 512 * n.val] S1x256x512.size (inbY m n)).emb x 1).isLt; change _ < 1024 at h; omega⟩ : Fin 4) = m :=
    Fin.ext (by show (256 * m.val + 1 * (x 1).val) / 256 = m.val; omega)
  have en : (⟨((Rect.unit (s := S1x1024x2048) ![0, 256 * m.val, 512 * n.val] S1x256x512.size (inbY m n)).emb x 2).val / 512, by have h := ((Rect.unit (s := S1x1024x2048) ![0, 256 * m.val, 512 * n.val] S1x256x512.size (inbY m n)).emb x 2).isLt; change _ < 2048 at h; omega⟩ : Fin 4) = n :=
    Fin.ext (by show (512 * n.val + 1 * (x 2).val) / 512 = n.val; omega)
  rw [em, en]
  congr 1
  funext a
  apply Fin.ext
  match a with
  | ⟨0, _⟩ => show (x 0).val = 0; omega
  | ⟨1, _⟩ => show (x 1).val = (256 * m.val + 1 * (x 1).val) % 256; omega
  | ⟨2, _⟩ => show (x 2).val = (512 * n.val + 1 * (x 2).val) % 512; omega

/-- After the sixteen stores the output window holds `yV`. -/
theorem read_yPieces {κ : Kind} {sp : Space} (v : View sig κ sp S1x1024x2048 .bf16) (f : v.ty.Contents (Elt F)) (i : grid1.Coords) (x1 : Vec F S8x10240 .f32) (x2 : Vec F S1024x8192 .fp8e4m3) (x3 : Vec F S1x8192 .f32) (x4 : Vec F S1x8192 .bf16)
    (xc : Vec F S1x1024x1024 .fp8e4m3) (xs : Vec F S1024x128 .f32) :
    v.read (Elt F) (v.writes (Elt F) f (yPieces i x1 x2 x3 x4 xc xs)) = yV i x1 x2 x3 x4 xc xs := by
  have hc : ∀ y : S1x1024x2048.Idx, ∃ p ∈ yPieces i x1 x2 x3 x4 xc xs, y ∈ p.1.set := fun y =>
    View.cover_of_tiled (s := S1x1024x2048) (yPieces i x1 x2 x3 x4 xc xs) S1x256x512.size (by rfl) y
  rw [View.read_writes_eq_canon _ _ _ hc]
  funext y
  refine View.canon_apply_of_pieces (yV i x1 x2 x3 x4 xc xs) _ (fun p hp => ?_) y (hc y)
  unfold yPieces at hp
  simp only [List.mem_cons, List.not_mem_nil, or_false] at hp
  rcases hp with rfl | rfl | rfl | rfl | rfl | rfl | rfl | rfl | rfl | rfl | rfl | rfl | rfl | rfl | rfl | rfl
  · exact fun x => yTileL_at i x1 x2 x3 x4 xc xs 3 3 x
  · exact fun x => yTileL_at i x1 x2 x3 x4 xc xs 2 3 x
  · exact fun x => yTileL_at i x1 x2 x3 x4 xc xs 1 3 x
  · exact fun x => yTileL_at i x1 x2 x3 x4 xc xs 0 3 x
  · exact fun x => yTileL_at i x1 x2 x3 x4 xc xs 3 2 x
  · exact fun x => yTileL_at i x1 x2 x3 x4 xc xs 2 2 x
  · exact fun x => yTileL_at i x1 x2 x3 x4 xc xs 1 2 x
  · exact fun x => yTileL_at i x1 x2 x3 x4 xc xs 0 2 x
  · exact fun x => yTileL_at i x1 x2 x3 x4 xc xs 3 1 x
  · exact fun x => yTileL_at i x1 x2 x3 x4 xc xs 2 1 x
  · exact fun x => yTileL_at i x1 x2 x3 x4 xc xs 1 1 x
  · exact fun x => yTileL_at i x1 x2 x3 x4 xc xs 0 1 x
  · exact fun x => yTileL_at i x1 x2 x3 x4 xc xs 3 0 x
  · exact fun x => yTileL_at i x1 x2 x3 x4 xc xs 2 0 x
  · exact fun x => yTileL_at i x1 x2 x3 x4 xc xs 1 0 x
  · exact fun x => yTileL_at i x1 x2 x3 x4 xc xs 0 0 x

/-- The two loads of the modulation row, as plain rows. -/
theorem ld_mod1 (i : grid1.Coords) (h1 : k1_cond1 i = 1#1) (x1 : Vec F S8x10240 .f32) :
    View.ld x1 (Rect.unit (s := S8x10240) (k1_off1 i) S1x1024.size (k1_off1_inb i h1)) = modRow x1 i ⟨0, by decide⟩ := by
  funext x
  have x0' : (x 0).val < 1 := (x 0).isLt
  refine ld_unit_at x1 _ (k1_off1_eq i) x _ fun a => ?_
  match a with
  | ⟨0, _⟩ => show (i 0).val = (i 0).val + (x 0).val; omega
  | ⟨1, _⟩ => rfl
theorem ld_mod2 (i : grid1.Coords) (h1 : k1_cond1 i = 1#1) (x1 : Vec F S8x10240 .f32) :
    View.ld x1 (Rect.unit (s := S8x10240) (k1_off2 i) S1x1024.size (k1_off2_inb i h1)) = modRow x1 i ⟨1024, by decide⟩ := by
  funext x
  have x0' : (x 0).val < 1 := (x 0).isLt
  refine ld_unit_at x1 _ (k1_off2_eq i) x _ fun a => ?_
  match a with
  | ⟨0, _⟩ => show (i 0).val = (i 0).val + (x 0).val; omega
  | ⟨1, _⟩ => rfl
theorem codesV_ld (i : grid1.Coords) (h1 : k1_cond1 i = 1#1) (x0 : Vec F S1x1024x1024 .bf16) (x1 : Vec F S8x10240 .f32) :
    codesV (View.ld x1 (Rect.unit (s := S8x10240) (k1_off1 i) S1x1024.size (k1_off1_inb i h1))) (View.ld x1 (Rect.unit (s := S8x10240) (k1_off2 i) S1x1024.size (k1_off2_inb i h1))) x0
      = codesV (modRow x1 i ⟨0, by decide⟩) (modRow x1 i ⟨1024, by decide⟩) x0 := by rw [ld_mod1 i h1, ld_mod2 i h1]
theorem scaleV_ld (i : grid1.Coords) (h1 : k1_cond1 i = 1#1) (x0 : Vec F S1x1024x1024 .bf16) (x1 : Vec F S8x10240 .f32) :
    scaleV (View.ld x1 (Rect.unit (s := S8x10240) (k1_off1 i) S1x1024.size (k1_off1_inb i h1))) (View.ld x1 (Rect.unit (s := S8x10240) (k1_off2 i) S1x1024.size (k1_off2_inb i h1))) x0
      = scaleV (modRow x1 i ⟨0, by decide⟩) (modRow x1 i ⟨1024, by decide⟩) x0 := by rw [ld_mod1 i h1, ld_mod2 i h1]
theorem scrV_ld (i : grid1.Coords) (h1 : k1_cond1 i = 1#1) (x0 : Vec F S1x1024x1024 .bf16) (x1 : Vec F S8x10240 .f32) :
    scrV (View.ld x1 (Rect.unit (s := S8x10240) (k1_off1 i) S1x1024.size (k1_off1_inb i h1))) (View.ld x1 (Rect.unit (s := S8x10240) (k1_off2 i) S1x1024.size (k1_off2_inb i h1))) x0
      = scrV (modRow x1 i ⟨0, by decide⟩) (modRow x1 i ⟨1024, by decide⟩) x0 := by rw [ld_mod1 i h1, ld_mod2 i h1]

/-! ## The body -/

theorem yV_congr (i : grid1.Coords) (x1 : Vec F S8x10240 .f32) (x2 : Vec F S1024x8192 .fp8e4m3) (x3 : Vec F S1x8192 .f32) (x4 : Vec F S1x8192 .bf16)
    {xc xc' : Vec F S1x1024x1024 .fp8e4m3} {xs xs' : Vec F S1024x128 .f32} (hc : xc = xc') (hs : xs = xs') :
    yV i x1 x2 x3 x4 xc xs = yV i x1 x2 x3 x4 xc' xs' := by rw [hc, hs]

attribute [local instance] loopX in
set_option maxHeartbeats 1000000 in
/-- The body at a sample's first point: from the inputs' windows at `x0 … x4` and the others at anything, to the output window at
    `yV`, the codes and scale windows at the sample's codes and scales and the scratch at the scales over 128 lanes. -/
theorem bodyFirst (c : Dev nD) (i : grid1.Coords) (arg2 : Memref sig .tc .vmem S1x1024x1024 .bf16) (harg2 : arg2.IsWhole) (arg3 : Memref sig .tc .vmem S8x10240 .f32) (harg3 : arg3.IsWhole) (arg4 : Memref sig .tc .vmem S1024x8192 .fp8e4m3) (harg4 : arg4.IsWhole) (arg5 : Memref sig .tc .vmem S1x8192 .f32) (harg5 : arg5.IsWhole) (arg6 : Memref sig .tc .vmem S1x8192 .bf16) (harg6 : arg6.IsWhole) (arg7 : Memref sig .tc .vmem S1x1024x2048 .bf16) (harg7 : arg7.IsWhole) (arg8 : Memref sig .tc .vmem S1x1024x1024 .fp8e4m3) (harg8 : arg8.IsWhole) (arg9 : Memref sig .tc .vmem S1x1024x1 .f32) (harg9 : arg9.IsWhole) (arg10 : Memref sig .tc .vmem S1024x128 .f32) (harg10 : arg10.IsWhole) (h1 : k1_cond1 i = 1#1)
    (x0 : Vec F S1x1024x1024 .bf16) (x1 : Vec F S8x10240 .f32) (x2 : Vec F S1024x8192 .fp8e4m3) (x3 : Vec F S1x8192 .f32) (x4 : Vec F S1x8192 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (yV i x1 x2 x3 x4 (codesV (modRow x1 i ⟨0, by decide⟩) (modRow x1 i ⟨1024, by decide⟩) x0) (scrV (modRow x1 i ⟨0, by decide⟩) (modRow x1 i ⟨1024, by decide⟩) x0)) ∗ owns (c : Thread nD τ) arg8 fullShare (codesV (modRow x1 i ⟨0, by decide⟩) (modRow x1 i ⟨1024, by decide⟩) x0) ∗ owns (c : Thread nD τ) arg9 fullShare (scaleV (modRow x1 i ⟨0, by decide⟩) (modRow x1 i ⟨1024, by decide⟩) x0) ∗ owns (c : Thread nD τ) arg10 fullShare (scrV (modRow x1 i ⟨0, by decide⟩) (modRow x1 i ⟨1024, by decide⟩) x0)) -∗ K ⟨⟩))
          ⊢ wp frame (wpE (defs₀ (F := F)) Variants.none c none) E (cc1_adaln_fp8_linear i arg2 harg2 arg3 harg3 arg4 harg4 arg5 harg5 arg6 harg6 arg7 harg7 arg8 harg8 arg9 harg9 arg10 harg10) K := by
    intro E K
    simp only [cc1_adaln_fp8_linear_eq_skeleton]; unfold cc1_adaln_fp8_linear_skel
    simp only [k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    subst hf0 hf1 hf2 hf3 hf4
    sl_exec (disch := first | sl_exact h1)
    sl_step
    iapply Hk
    isplitl [HL0]
    · iexists f0; isplitr; · ipureintro; rfl
      iexact HL0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      exact (read_yPieces arg7.view f5 i (arg3.view.read (Elt F) f1) (arg4.view.read (Elt F) f2) (arg5.view.read (Elt F) f3) (arg6.view.read (Elt F) f4) _ _).trans
        (yV_congr i _ _ _ _ ((harg8.read_unread _).trans (codesV_ld i h1 _ (arg3.view.read (Elt F) f1))) ((harg10.read_unread _).trans (scrV_ld i h1 _ (arg3.view.read (Elt F) f1))))
    isplitl [HL1]
    · iexists _; isplitr; swap; · iexact HL1
      ipureintro; exact (harg8.read_unread _).trans (codesV_ld i h1 _ (arg3.view.read (Elt F) f1))
    isplitl [HL2]
    · iexists _; isplitr; swap; · iexact HL2
      ipureintro; exact (harg9.read_unread _).trans (scaleV_ld i h1 _ (arg3.view.read (Elt F) f1))
    iexists _; isplitr; swap; · iexact HL3
    ipureintro; exact (harg10.read_unread _).trans (scrV_ld i h1 _ (arg3.view.read (Elt F) f1))

set_option maxHeartbeats 1000000 in
/-- The body at a later point of a sample: the codes, scale and scratch buffers are only read, the output window is filled
    from them. -/
theorem bodyNext (c : Dev nD) (i : grid1.Coords) (arg2 : Memref sig .tc .vmem S1x1024x1024 .bf16) (harg2 : arg2.IsWhole) (arg3 : Memref sig .tc .vmem S8x10240 .f32) (harg3 : arg3.IsWhole) (arg4 : Memref sig .tc .vmem S1024x8192 .fp8e4m3) (harg4 : arg4.IsWhole) (arg5 : Memref sig .tc .vmem S1x8192 .f32) (harg5 : arg5.IsWhole) (arg6 : Memref sig .tc .vmem S1x8192 .bf16) (harg6 : arg6.IsWhole) (arg7 : Memref sig .tc .vmem S1x1024x2048 .bf16) (harg7 : arg7.IsWhole) (arg8 : Memref sig .tc .vmem S1x1024x1024 .fp8e4m3) (harg8 : arg8.IsWhole) (arg9 : Memref sig .tc .vmem S1x1024x1 .f32) (harg9 : arg9.IsWhole) (arg10 : Memref sig .tc .vmem S1024x128 .f32) (harg10 : arg10.IsWhole) (h1 : ¬ k1_cond1 i = 1#1)
    (x0 : Vec F S1x1024x1024 .bf16) (x1 : Vec F S8x10240 .f32) (x2 : Vec F S1024x8192 .fp8e4m3) (x3 : Vec F S1x8192 .f32) (x4 : Vec F S1x8192 .bf16) (xc : Vec F S1x1024x1024 .fp8e4m3) (xl : Vec F S1x1024x1 .f32) (xs : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xc ∗ owns (c : Thread nD τ) arg9 fullShare xl ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (yV i x1 x2 x3 x4 xc xs) ∗ owns (c : Thread nD τ) arg8 fullShare xc ∗ owns (c : Thread nD τ) arg9 fullShare xl ∗ owns (c : Thread nD τ) arg10 fullShare xs) -∗ K ⟨⟩))
          ⊢ wp frame (wpE (defs₀ (F := F)) Variants.none c none) E (cc1_adaln_fp8_linear i arg2 harg2 arg3 harg3 arg4 harg4 arg5 harg5 arg6 harg6 arg7 harg7 arg8 harg8 arg9 harg9 arg10 harg10) K := by
    intro E K
    simp only [cc1_adaln_fp8_linear_eq_skeleton]; unfold cc1_adaln_fp8_linear_skel
    simp only [k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hk⟩
    subst hf0 hf1 hf2 hf3 hf4 hf6 hf7 hfs0
    sl_exec (disch := first | sl_exact h1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr; swap; · iexact H5
      ipureintro
      exact read_yPieces arg7.view f5 i (arg3.view.read (Elt F) f1) (arg4.view.read (Elt F) f2) (arg5.view.read (Elt F) f3) (arg6.view.read (Elt F) f4) (arg8.view.read (Elt F) f6) (arg10.view.read (Elt F) fs0)
    isplitl [H6]
    · iexists f6; isplitr; · ipureintro; rfl
      iexact H6
    isplitl [H7]
    · iexists f7; isplitr; · ipureintro; rfl
      iexact H7
    iexists fs0; isplitr; · ipureintro; rfl
    iexact HS0

end Cert.KernelIdeal.Hand

end
-- ==== Proof.RunIdeal.lean ====
/- The two launches of `proofs.«01_k».proof.KernelIdeal`, at any float semantics: per launch the proof data (what each window's
   buffer holds after the body at each grid point) and the body obligation, then the run of @main from the launch to the return and
   the frame claim. The second launch keeps the codes, the scales and the scratch scales from a sample's first point on: the windows
   of the codes and scales are idle at its later points, and the invariant says what the scratch holds. -/
module

public import proofs.«01_k».proof.Proof.BodyIdeal
public import Idealize.ShloMosaic.Lib.Pipeline.RegionsLoop
public import Idealize.ShloMosaic.Lib.Pipeline.FrameSuffix
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_adaln_mod` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S8x1024 := Rect.unit (s := S8x1024) ![0, 0] S8x1024.size inb_S8x1024_S8x1024_0_0
abbrev r0_1 : Rect S1024x2048 := Rect.unit (s := S1024x2048) ![0, 0] S1024x2048.size inb_S1024x2048_S1024x2048_0_0
abbrev r0_2 : Rect S8x2048 := Rect.unit (s := S8x2048) ![0, 0] S8x2048.size inb_S8x2048_S8x2048_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S8x1024 .bf16) (x1 : Vec F S1024x2048 .bf16) : Vec F S8x2048 .f32 :=
  View.canon [⟨r0_2, k0_pay1 (View.ld x0 r0_0) (View.ld x1 r0_1)⟩]

/-- Its stores tile the buffer (checked by evaluation), so they cover it. -/
theorem cover0_2 (p0 : Vec F S8x2048 .f32) (y : S8x2048.Idx) :
    ∃ pc ∈ ([⟨r0_2, p0⟩] : List (View.Piece (Elt F) S8x2048 .f32)), y ∈ pc.1.set :=
  View.cover_of_tiled [⟨r0_2, p0⟩] S8x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S8x1024 .bf16) (harg1 : arg1.IsWhole) (arg2 : Memref sig .tc .vmem S1024x2048 .bf16) (harg2 : arg2.IsWhole) (arg3 : Memref sig .tc .vmem S8x2048 .f32) (harg3 : arg3.IsWhole)
    (x0 : Vec F S8x1024 .bf16) (x1 : Vec F S1024x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_adaln_mod i arg1 harg1 arg2 harg2 arg3 harg3) K := by
  simp only [cc0_adaln_mod_eq_skeleton]; unfold cc0_adaln_mod_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_adaln_fp8_linear` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## Where the body's branch runs, and what that makes of the windows of the codes and the scales -/

/-- The body quantises at the points ≡ 0 (mod 4): a sample's first. -/
theorem hcond1 : ∀ t : Fin cfg1.N, k1_cond1 (grid1.coords t) = 1#1 ↔ t.val % 4 = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [k1_cond1, e0, e1]
    word_cmp
   : ∀ t : Fin grid1.N, k1_cond1 (grid1.coords t) = 1#1 ↔ t.val % 4 = 0)

theorem idle6 (t : Fin cfg1.N) : cfg1.idle 6 (grid1.coords t) = true ↔ t.val % 4 ≠ 0 := by
  rw [Ne, ← hcond1 t]
  show (!(k1_cond1 (grid1.coords t) == 1#1)) = true ↔ _
  rw [Bool.not_eq_true', beq_eq_false_iff_ne]
theorem idle7 (t : Fin cfg1.N) : cfg1.idle 7 (grid1.coords t) = true ↔ t.val % 4 ≠ 0 := by
  rw [Ne, ← hcond1 t]
  show (!(k1_cond1 (grid1.coords t) == 1#1)) = true ↔ _
  rw [Bool.not_eq_true', beq_eq_false_iff_ne]

/-- A window written back at the points ≡ 3 and idle off the points ≡ 0 (mod 4) has a fresh buffer at the points ≡ 0. -/
theorem fresh_iff (w : Fin cfg1.W) (hf : ∀ t, (cfg1.win w).flush t = true ↔ t.val % 4 = 3)
    (hi : ∀ t : Fin cfg1.N, cfg1.idle w (grid1.coords t) = true ↔ t.val % 4 ≠ 0) :
    ∀ n, n ≤ cfg1.N → (cfg1.fresh w n = true ↔ n % 4 = 0)
  | 0, _ => by rw [Cfg.fresh_zero]; simp
  | n + 1, h => by
    rw [Cfg.fresh_succ cfg1 w n h, Bool.or_eq_true, Bool.and_eq_true, hf, fresh_iff w hf hi n (Nat.le_of_succ_le h)]
    rw [show (cfg1.idle w (cfg1.grid.coords ⟨n, h⟩) = true) ↔ n % 4 ≠ 0 from hi ⟨n, h⟩]
    show n % 4 = 3 ∨ n % 4 ≠ 0 ∧ n % 4 = 0 ↔ (n + 1) % 4 = 0
    omega

/-! ## The pipeline's proof data -/

/-- The first point of the sample of point `t`. -/
def base (t : Fin cfg1.N) : Fin cfg1.N := ⟨t.val / 4 * 4, Nat.lt_of_le_of_lt (Nat.div_mul_le_self _ _) t.isLt⟩
theorem base_first {t : Fin cfg1.N} (h : t.val % 4 = 0) : base t = t := Fin.ext (by show t.val / 4 * 4 = t.val; omega)
theorem base_next {t : Fin cfg1.N} (h : t.val % 4 ≠ 0) {n : Nat} (hn : n + 1 = t.val) (hn' : n < cfg1.N) : base ⟨n, hn'⟩ = base t :=
  Fin.ext (by show n / 4 * 4 = t.val / 4 * 4; omega)

/-- The shift and scale rows of the sample of point `t`, -/
abbrev shAt (c : Dev nD) (t : Fin cfg1.N) : Vec F S1x1024 .f32 := modRow (iblk1 V c 1 (base t)) (grid1.coords (base t)) ⟨0, by decide⟩
abbrev scAt (c : Dev nD) (t : Fin cfg1.N) : Vec F S1x1024 .f32 := modRow (iblk1 V c 1 (base t)) (grid1.coords (base t)) ⟨1024, by decide⟩
/-- its codes, its scales and its scales over 128 lanes, each from the windows of the sample's first point. -/
def codesAt (c : Dev nD) (t : Fin cfg1.N) : Vec F S1x1024x1024 .fp8e4m3 := codesV (shAt V c t) (scAt V c t) (iblk1 V c 0 (base t))
def scaleAt (c : Dev nD) (t : Fin cfg1.N) : Vec F S1x1024x1 .f32 := scaleV (shAt V c t) (scAt V c t) (iblk1 V c 0 (base t))
def scrAt (c : Dev nD) (t : Fin cfg1.N) : Vec F S1024x128 .f32 := scrV (shAt V c t) (scAt V c t) (iblk1 V c 0 (base t))
def yAt (c : Dev nD) (t : Fin cfg1.N) : Vec F S1x1024x2048 .bf16 :=
  yV (grid1.coords t) (iblk1 V c 1 t) (iblk1 V c 2 t) (iblk1 V c 3 t) (iblk1 V c 4 t) (codesAt V c t) (scrAt V c t)

/-- The scoped buffers of the other launch. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `n`: after the first point the scratch holds the scales of the point before's sample. -/
def Phi1 (c : Dev nD) (n : Nat) : sProp 𝕄 :=
  iprop((∃ d, ⌜∀ k (hk : k + 1 = n) (hk' : k < cfg1.N), d = scrAt V c ⟨k, hk'⟩⌝ ∗ owns (c : Thread nD τ) (Memref.whole cc1_scratch0) fullShare d)
    ∗ others c ∗ ∃ r, prngReg c r)

/-- The proof data of the second launch on core `c`: the arrays as the launch finds them (`V`); after the body at point `t` each
    input's buffer at its block, the output's at `yAt`, the codes' and scales' at those of the point's sample; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => yAt V c t
    | ⟨6, _⟩ => codesAt V c t
    | ⟨7, _⟩ => scaleAt V c t
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = yAt V c t := by dsimp only [dat1]
theorem after1_6 (c : Dev nD) (t : Fin cfg1.N) : (dat1 V c).after 6 t = codesAt V c t := by dsimp only [dat1]
theorem after1_7 (c : Dev nD) (t : Fin cfg1.N) : (dat1 V c).after 7 t = scaleAt V c t := by dsimp only [dat1]

/-- Off a sample's first point the codes' buffer holds the sample's codes, -/
theorem before1_6 (c : Dev nD) (t : Fin cfg1.N) (ht : t.val % 4 ≠ 0) (d) : (dat1 V c).before 6 t d = codesAt V c t := by
  have hN : ∀ s : Fin cfg1.N, s.val ≤ cfg1.N := fun s => Nat.le_of_lt s.isLt
  rw [(dat1 V c).before_out_traj 6 rfl (fun _ _ => rfl) (fun s hs hi hfr => ?_) t.val t rfl d]
  · rw [if_neg (fun h => ht ((fresh_iff 6 flush1_6 idle6 t.val (hN t)).mp h)), after1_6]
    unfold codesAt shAt scAt; rw [base_next ht (n := t.val - 1) (by omega) (by omega)]
  · have hs4 := (idle6 s).mp hi
    rw [after1_6, after1_6]; unfold codesAt shAt scAt; rw [base_next hs4 (n := s.val - 1) (by omega) (by omega)]
/-- and the scales' buffer its scales. -/
theorem before1_7 (c : Dev nD) (t : Fin cfg1.N) (ht : t.val % 4 ≠ 0) (d) : (dat1 V c).before 7 t d = scaleAt V c t := by
  have hN : ∀ s : Fin cfg1.N, s.val ≤ cfg1.N := fun s => Nat.le_of_lt s.isLt
  rw [(dat1 V c).before_out_traj 7 rfl (fun _ _ => rfl) (fun s hs hi hfr => ?_) t.val t rfl d]
  · rw [if_neg (fun h => ht ((fresh_iff 7 flush1_7 idle7 t.val (hN t)).mp h)), after1_7]
    unfold scaleAt shAt scAt; rw [base_next ht (n := t.val - 1) (by omega) (by omega)]
  · have hs4 := (idle7 s).mp hi
    rw [after1_7, after1_7]; unfold scaleAt shAt scAt; rw [base_next hs4 (n := s.val - 1) (by omega) (by omega)]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leavesExact 6 t
    ∗ (dat1 V c).leavesExact 7 t)

theorem scr_first (c : Dev nD) (t : Fin cfg1.N) (h : t.val % 4 = 0) :
    scrV (modRow (iblk1 V c 1 t) (grid1.coords t) ⟨0, by decide⟩) (modRow (iblk1 V c 1 t) (grid1.coords t) ⟨1024, by decide⟩) (iblk1 V c 0 t) = scrAt V c t := by
  unfold scrAt shAt scAt; rw [base_first h]
theorem codes_first (c : Dev nD) (t : Fin cfg1.N) (h : t.val % 4 = 0) :
    codesV (modRow (iblk1 V c 1 t) (grid1.coords t) ⟨0, by decide⟩) (modRow (iblk1 V c 1 t) (grid1.coords t) ⟨1024, by decide⟩) (iblk1 V c 0 t) = codesAt V c t := by
  unfold codesAt shAt scAt; rw [base_first h]
theorem scale_first (c : Dev nD) (t : Fin cfg1.N) (h : t.val % 4 = 0) :
    scaleV (modRow (iblk1 V c 1 t) (grid1.coords t) ⟨0, by decide⟩) (modRow (iblk1 V c 1 t) (grid1.coords t) ⟨1024, by decide⟩) (iblk1 V c 0 t) = scaleAt V c t := by
  unfold scaleAt shAt scAt; rw [base_first h]
theorem scr_next (c : Dev nD) (t : Fin cfg1.N) (h : t.val % 4 ≠ 0) {k : Nat} (hk : k + 1 = t.val) (hk' : k < cfg1.N) :
    scrAt V c ⟨k, hk'⟩ = scrAt V c t := by
  unfold scrAt shAt scAt; rw [base_next h hk hk']

/-- The body at any point of the second launch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = Phi1 V c (t.val + 1) from rfl, show (dat1 V c).Φ t.castSucc = Phi1 V c t.val from rfl,
    show (dat1 V c).owesAt () t.succ = (dat1 V c).owesAt () t.castSucc from rfl,
    after1_0, after1_1, after1_2, after1_3, after1_4, after1_5]
  unfold Phi1
  by_cases h4 : t.val % 4 = 0
  · have i6 : cfg1.idle 6 (cfg1.grid.coords t) = false := Bool.eq_false_iff.mpr fun h => (idle6 t).mp h h4
    have i7 : cfg1.idle 7 (cfg1.grid.coords t) = false := Bool.eq_false_iff.mpr fun h => (idle7 t).mp h h4
    rw [show (dat1 V c).leavesExact 6 t = owns (c : Thread nD τ) (st1_6 t) fullShare (codesAt V c t) from by
        unfold Dat.leavesExact; rw [i6, after1_6],
      show (dat1 V c).leavesExact 7 t = owns (c : Thread nD τ) (st1_7 t) fullShare (scaleAt V c t) from by
        unfold Dat.leavesExact; rw [i7, after1_7]]
    rw [yAt, ← codes_first V c t h4, ← scale_first V c t h4, ← scr_first V c t h4]
    iintro ⟨⟨⟨%ds, -, HS⟩, Hoth⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyFirst c (grid1.coords t) _ _ _ _ _ _ _ _ _ _ _ _ _ _ _ _ _ _ ((hcond1 t).mpr h4) (iblk1 V c 0 t) (iblk1 V c 1 t) (iblk1 V c 2 t) (iblk1 V c 3 t) (iblk1 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexists _; iexact HS
    iintro ⟨H0, H1, H2, H3, H4, H5, H6, H7, HS⟩
    isplitl [HS Hoth]
    · isplitl [HS]
      · iexists _
        isplitr; swap; · iexact HS
        ipureintro
        intro k hk hk'
        obtain rfl : k = t.val := by omega
        exact scr_first V c t h4
      iexact Hoth
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have i6 : cfg1.idle 6 (cfg1.grid.coords t) = true := (idle6 t).mpr h4
    have i7 : cfg1.idle 7 (cfg1.grid.coords t) = true := (idle7 t).mpr h4
    have hl6 : owns (c : Thread nD τ) (st1_6 t) fullShare (codesAt V c t) ⊢ (dat1 V c).leavesExact 6 t := by
      unfold Dat.leavesExact; rw [i6]
      cases (cfg1.win 6).flush t
      · iintro H; iexists codesAt V c t; rw [before1_6 V c t h4]; iexact H
      · rw [after1_6]
    have hl7 : owns (c : Thread nD τ) (st1_7 t) fullShare (scaleAt V c t) ⊢ (dat1 V c).leavesExact 7 t := by
      unfold Dat.leavesExact; rw [i7]
      cases (cfg1.win 7).flush t
      · iintro H; iexists scaleAt V c t; rw [before1_7 V c t h4]; iexact H
      · rw [after1_7]
    simp only [before1_6 V c t h4, before1_7 V c t h4]
    rw [yAt]
    iintro ⟨⟨⟨%ds, %hds, HS⟩, Hoth⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hs : ds = scrAt V c t := (hds (t.val - 1) (by omega) (by omega)).trans (scr_next V c t h4 (by omega) (by omega))
    subst hs
    iapply (bodyNext c (grid1.coords t) _ _ _ _ _ _ _ _ _ _ _ _ _ _ _ _ _ _ (fun h => h4 ((hcond1 t).mp h)) (iblk1 V c 0 t) (iblk1 V c 1 t) (iblk1 V c 2 t) (iblk1 V c 3 t) (iblk1 V c 4 t) (codesAt V c t) (scaleAt V c t) (scrAt V c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    iintro ⟨H0, H1, H2, H3, H4, H5, H6, H7, HS⟩
    isplitl [HS Hoth]
    · isplitl [HS]
      · iexists _
        isplitr; swap; · iexact HS
        ipureintro
        intro k hk hk'
        obtain rfl : k = t.val := by omega
        rfl
      iexact Hoth
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply hl6; iexact H6
    iapply hl7; iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation of the second launch, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The scoped buffers no window stages, with the generator register, are the invariant before the first point, -/
theorem phi_in (c : Dev nD) : iprop((∃ r, prngReg c r) ∗ Pipeline.scopedRest (Ix := Unit) (Name := ℕ) (U := UR sig nD τ) (Lvl := ℕ) (Val := Elt F) spec1 c) ⊢ Phi1 V c 0 := by
  rw [scopedRest1_eq]; unfold Phi1 others; simp only [owns_whole]
  iintro ⟨Hp, A, B, C, D, E, ⟨%f, G⟩⟩
  isplitl [G]
  · iexists f
    isplitr; · ipureintro; intro k hk; omega
    iexact G
  isplitr [Hp]; swap; · iexact Hp
  isplitl [A]; · iexact A
  isplitl [B]; · iexact B
  isplitl [C]; · iexact C
  isplitl [D]; · iexact D
  iexact E
/-- and they come back from it after any. -/
theorem phi_out (c : Dev nD) (n : Nat) : Phi1 V c n ⊢ iprop((∃ r, prngReg c r) ∗ Pipeline.scopedRest (Ix := Unit) (Name := ℕ) (U := UR sig nD τ) (Lvl := ℕ) (Val := Elt F) spec1 c) := by
  rw [scopedRest1_eq]; unfold Phi1 others; simp only [owns_whole]
  iintro ⟨⟨%f, -, G⟩, ⟨A, B, C, D, E⟩, Hp⟩
  isplitl [Hp]; · iexact Hp
  isplitl [A]; · iexact A
  isplitl [B]; · iexact B
  isplitl [C]; · iexact C
  isplitl [D]; · iexact D
  isplitl [E]; · iexact E
  iexists f; iexact G

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V2 m ρ) c 0 from rfl]
    iintro ⟨Hp, -, Hr⟩
    iapply (phi_in (V2 m ρ) c)
    isplitl [Hp]; · iexact Hp
    iexact Hr
  hout c := by
    rw [Pipeline.ownSems0_none, show (pdats m ρ 1 c).Φ (Fin.last _) = Phi1 (V2 m ρ) c (Fin.last cfg1.N).val from rfl]
    iintro H
    ihave H := (phi_out (V2 m ρ) c _) $$ H
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: every weakly fair execution of @main terminates, nothing faulting, and every final state has each unscoped buffer at the
    last boundary's contents `W3` and every semaphore counter at zero. -/
theorem run_full : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- THE FRAME: every weakly fair execution of @main terminates, nothing faulting, and every final state has the argument arrays as
    launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c),
       (h.1 c _ (mem_uc main_arg5 (by decide))).trans (W3_main_arg5 m ρ c)⟩, h.2⟩) (run_full m ρ)

end Cert.KernelIdeal.Hand

end
-- ==== Proof.Quant.lean ====
/-  The row quantiser on extended reals: the kernel finds the exponent of the scale bit by bit, from
    the words whose only set bits are in the exponent field; the reference takes the least power of
    two above the value.  Here the two are shown to be the same function. -/
module

public import Idealize.ShloMosaic.Lib.Pipeline.ValueKit
public import Idealize.ShloMosaic.Lib.IdealHost

@[expose] public section

set_option maxRecDepth 16384

noncomputable section

namespace Cert.Quant

open Idealize.ShloMosaic

/-! ## Words with nothing but an exponent -/

/-- The binary32 word whose exponent field is `n` and whose other bits are zero. -/
def expWord (n : ℕ) : BitVec 32 := BitVec.ofNat 32 n <<< (23#32)

/-- The number that word denotes: zero, a power of two, or plus infinity. -/
def pw (n : ℕ) : EReal := Ideal.ofBits .f32 (expWord n)

theorem expWord_fields : ∀ n : Fin 256,
    (expWord n.val).extractLsb' 31 1 = 0#1 ∧ ((expWord n.val).extractLsb' 23 8).toNat = n.val
      ∧ ((expWord n.val).extractLsb' 0 23).toNat = 0 := by
  decide +kernel

/-- The number of exponent field `n`, by cases. -/
theorem pw_eq (n : ℕ) (h : n < 256) :
    pw n = if n = 255 then ⊤ else if n = 0 then 0 else (((2 : ℝ) ^ ((n : ℤ) - 127) : ℝ) : EReal) := by
  obtain ⟨h1, h2, h3⟩ := expWord_fields ⟨n, h⟩
  simp only at h1 h2 h3
  unfold pw Ideal.ofBits Ideal.ieee
  simp only [Nat.reduceAdd, h1, h2, h3]
  by_cases a : n = 255
  · simp [a]
  · by_cases b : n = 0
    · simp [b]
    · have e : ∀ z : ℤ, (2 : ℝ) ^ z = 8388608 * (2 : ℝ) ^ (z - 23) := fun z => by
        rw [zpow_sub₀ (by norm_num)]; norm_num; ring
      rw [if_neg (by omega), if_neg b, if_neg a, if_neg b, e ((n : ℤ) - 127)]
      norm_num

theorem pw_zero : pw 0 = 0 := by rw [pw_eq 0 (by decide)]; simp

theorem pw_top : pw 255 = ⊤ := by rw [pw_eq 255 (by decide)]; simp

theorem pw_mid (n : ℕ) (h0 : 0 < n) (h1 : n < 255) :
    pw n = (((2 : ℝ) ^ ((n : ℤ) - 127) : ℝ) : EReal) := by
  rw [pw_eq n (by omega), if_neg (by omega), if_neg (by omega)]

/-- A larger exponent field denotes a larger number. -/
theorem pw_lt {a b : ℕ} (h : a < b) (hb : b < 256) : pw a < pw b := by
  rcases Nat.eq_zero_or_pos a with rfl | ha
  · rw [pw_zero]
    by_cases hb' : b = 255
    · rw [hb', pw_top]; exact EReal.zero_lt_top
    · rw [pw_mid b h (by omega)]
      exact_mod_cast (by positivity : (0 : ℝ) < 2 ^ ((b : ℤ) - 127))
  · rw [pw_mid a ha (by omega)]
    by_cases hb' : b = 255
    · rw [hb', pw_top]; exact EReal.coe_lt_top _
    · rw [pw_mid b (by omega) (by omega)]
      exact EReal.coe_lt_coe_iff.mpr (zpow_lt_zpow_right₀ (by norm_num : (1 : ℝ) < 2) (by omega))

theorem pw_le {a b : ℕ} (h : a ≤ b) (hb : b < 256) : pw a ≤ pw b := by
  rcases Nat.eq_or_lt_of_le h with rfl | h
  · exact le_rfl
  · exact (pw_lt h hb).le

/-! ## The kernel's bit descent -/

/-- One step: add the bit if the number of the larger field does not exceed `v`. -/
def step (v : EReal) (b n : ℕ) : ℕ := if pw (n + b) ≤ v then n + b else n

/-- The exponent field the eight steps find. -/
def field (v : EReal) : ℕ :=
  step v 1 (step v 2 (step v 4 (step v 8 (step v 16 (step v 32 (step v 64 (step v 128 0)))))))

/-- What the steps so far know: the field's number does not exceed `v`, and adding `r` exceeds `v`. -/
def Near (v : EReal) (r n : ℕ) : Prop :=
  n + r ≤ 256 ∧ (n = 0 ∨ pw n ≤ v) ∧ (n + r = 256 ∨ v < pw (n + r))

theorem Near.step {v : EReal} {b n : ℕ} (h : Near v (b + b) n) (hb : 0 < b) : Near v b (step v b n) := by
  obtain ⟨h1, h2, h3⟩ := h
  unfold Quant.step
  split
  · next h => exact ⟨by omega, .inr h, by rw [Nat.add_assoc]; exact h3⟩
  · next h => exact ⟨by omega, h2, .inr (not_le.mp h)⟩

/-- The field found is the last one whose number does not exceed `v`. -/
theorem near_field (v : EReal) : Near v 1 (field v) := by
  have h : Near v 256 0 := ⟨by decide, .inl rfl, .inl rfl⟩
  unfold field
  exact (((((((h.step (b := 128) (by decide)).step (b := 64) (by decide)).step (b := 32) (by decide)).step
    (b := 16) (by decide)).step (b := 8) (by decide)).step (b := 4) (by decide)).step (b := 2) (by decide)).step
    (b := 1) (by decide)

theorem field_lt (v : EReal) : field v < 256 := by
  have := (near_field v).1; omega

/-- One step on words, as the kernel computes it. -/
def stepWord (v : EReal) (b w : BitVec 32) : BitVec 32 :=
  Scalar.select (FloatOps.cmpf (F := Ideal) (φ := .f32) .oge v
      (FloatOps.ofBits .f32 (IntOp.shli .vector (IntOp.addi w b) 23#32))) (IntOp.addi w b) w

/-- The step on words is the step on exponent fields. -/
theorem stepWord_eq (v : EReal) (b n : ℕ) :
    stepWord v (BitVec.ofNat 32 b) (BitVec.ofNat 32 n) = BitVec.ofNat 32 (step v b n) := by
  have e : IntOp.addi (BitVec.ofNat 32 n) (BitVec.ofNat 32 b) = BitVec.ofNat 32 (n + b) := (BitVec.ofNat_add n b).symm
  have e' : IntOp.shli .vector (BitVec.ofNat 32 (n + b)) 23#32 = expWord (n + b) := by
    unfold IntOp.shli expWord; rw [if_pos (by decide)]
  unfold stepWord
  rw [e, e']
  show Scalar.select (BitVec.ofBool (decide (pw (n + b) ≤ v))) _ _ = _
  unfold step
  by_cases h : pw (n + b) ≤ v <;> simp [h, Scalar.select]

/-- The eight steps on words find the exponent field. -/
theorem steps_eq (v : EReal) :
    stepWord v 1#32 (stepWord v 2#32 (stepWord v 4#32 (stepWord v 8#32 (stepWord v 16#32
      (stepWord v 32#32 (stepWord v 64#32 (stepWord v 128#32 0#32))))))) = BitVec.ofNat 32 (field v) := by
  unfold field
  rw [stepWord_eq v 128 0, stepWord_eq v 64, stepWord_eq v 32, stepWord_eq v 16, stepWord_eq v 8, stepWord_eq v 4,
    stepWord_eq v 2, stepWord_eq v 1]

/-! ## The scale and its inverse -/

/-- The scale of a row from its largest magnitude over 448: the least power of two above it (plus
    infinity where that overflows); 1 below the smallest normal number and at infinity. -/
def scale (v : EReal) : EReal :=
  if v < pw 1 ∨ v = ⊤ then 1 else
    Finset.univ.fold min ⊤ fun j : Fin 256 => if v < pw (min (j.val + 2) 255) then pw (min (j.val + 2) 255) else ⊤

/-- One over the scale, zero where that is below the smallest normal number. -/
def inverse (s : EReal) : EReal := if pw 254 ≤ s then 0 else Ideal.div 1 s

/-- The scale's exponent field from the field found: one more, or that of 1. -/
def up (n : ℕ) : ℕ := if 0 < n ∧ n < 255 then n + 1 else 127

theorem pw_127 : pw 127 = 1 := by rw [pw_mid 127 (by decide) (by decide)]; norm_num

/-- The least power of two above `v` is the one after the field found. -/
theorem scale_eq (v : EReal) : scale v = pw (up (field v)) := by
  obtain ⟨h1, h2, h3⟩ := near_field v
  have hl := field_lt v
  unfold scale up
  generalize field v = n at *
  by_cases h : 0 < n ∧ n < 255
  · have hv : pw n ≤ v := h2.resolve_left (by omega)
    have hu : v < pw (n + 1) := h3.resolve_left (by omega)
    rw [if_pos h, if_neg]
    · refine le_antisymm ?_ ?_
      · refine (Finset.fold_min_le _).mpr (.inr ⟨⟨n - 1, by omega⟩, Finset.mem_univ _, ?_⟩)
        have e : min (n - 1 + 2) 255 = n + 1 := by omega
        simp only [e, if_pos hu, le_refl]
      · refine (Finset.le_fold_min _).mpr ⟨le_top, fun j _ => ?_⟩
        split
        · next hj =>
          refine pw_le ?_ (by omega)
          by_contra hc
          exact absurd (hj.trans_le (pw_le (b := n) (by omega) (by omega))) (not_lt.mpr hv)
        · exact le_top
    · rintro (hc | hc)
      · exact absurd (hc.trans_le (pw_le (b := n) (by omega) (by omega))) (not_lt.mpr hv)
      · rw [hc] at hu; exact not_top_lt hu
  · rw [if_neg h, pw_127, if_pos]
    by_cases h0 : n = 0
    · left; subst h0; exact h3.resolve_left (by omega)
    · right
      have : n = 255 := by omega
      subst this
      have := h2.resolve_left h0
      rw [pw_top] at this
      exact top_le_iff.mp this

/-- One over the scale has the mirrored exponent field. -/
theorem inverse_eq (n : ℕ) (h : n < 256) : inverse (pw (up n)) = pw (254 - up n) := by
  have hu : 1 < up n ∧ up n < 256 := by unfold up; split <;> omega
  generalize up n = k at *
  unfold inverse
  by_cases hk : 254 ≤ k
  · rw [if_pos (pw_le hk (by omega)), Nat.sub_eq_zero_of_le hk, pw_zero]
  · rw [if_neg (not_le.mpr (pw_lt (by omega) (by decide))), pw_mid k (by omega) (by omega),
      pw_mid (254 - k) (by omega) (by omega),
      Ideal.div_coe (by positivity), one_mul, one_div, ← zpow_neg]
    congr 2; omega

/-- The kernel's word for the scale's exponent: `field - 126`, or zero outside the normal fields or
    where the row is all zero. -/
def expo (z : BitVec 1) (w : BitVec 32) : BitVec 32 :=
  Scalar.select z 0#32 (Scalar.select (IntOp.andi (IntOp.cmpi .sgt w 0#32) (IntOp.cmpi .slt w 255#32))
    (IntOp.subi w 126#32) 0#32)

/-- The kernel's word for a power of two from its exponent. -/
def powWord (e : BitVec 32) : BitVec 32 :=
  IntOp.shli .vector (IntOp.minsi 255#32 (IntOp.maxsi 0#32 (IntOp.addi e 127#32))) 23#32

theorem powWord_up : ∀ n : Fin 256, powWord (expo 0#1 (BitVec.ofNat 32 n.val)) = expWord (up n.val) := by
  decide +kernel

theorem powWord_down : ∀ n : Fin 256,
    powWord (IntOp.subi 0#32 (expo 0#1 (BitVec.ofNat 32 n.val))) = expWord (254 - up n.val) := by
  decide +kernel

theorem expo_zero (z : BitVec 1) : expo z 0#32 = expo 0#1 0#32 := by
  revert z; decide

/-- A row of zeros has field 0, so the kernel's test for it changes nothing. -/
theorem expo_field (a c : EReal) :
    expo (Ideal.cmp .oeq a 0) (BitVec.ofNat 32 (field (a * c))) = expo 0#1 (BitVec.ofNat 32 (field (a * c))) := by
  by_cases h : a = 0
  · have : field (a * c) = 0 := by
      obtain ⟨_, h2, _⟩ := near_field (a * c)
      rcases h2 with h2 | h2
      · exact h2
      · by_contra hc
        rw [h, zero_mul] at h2 hc
        have := pw_lt (Nat.pos_of_ne_zero hc) (field_lt 0)
        rw [pw_zero] at this
        exact absurd h2 (not_le.mpr this)
    rw [this]; exact expo_zero _
  · simp [Ideal.cmp, h]

/-- The kernel's scale is the reference's. -/
theorem kernel_scale (a c : EReal) :
    Ideal.ofBits .f32 (powWord (expo (Ideal.cmp .oeq a 0) (BitVec.ofNat 32 (field (a * c))))) = scale (a * c) := by
  rw [expo_field, powWord_up ⟨_, field_lt _⟩, scale_eq]; rfl

/-- The kernel's inverse of the scale is the reference's. -/
theorem kernel_inverse (a c : EReal) :
    Ideal.ofBits .f32 (powWord (IntOp.subi 0#32 (expo (Ideal.cmp .oeq a 0) (BitVec.ofNat 32 (field (a * c))))))
      = inverse (scale (a * c)) := by
  rw [expo_field, powWord_down ⟨_, field_lt _⟩, scale_eq, inverse_eq _ (field_lt _)]; rfl

/-! ## The reference's powers of two -/

theorem pow_word : ∀ j : Fin 256, (IntOp.cmpi .slt (IntOp.subi (BitVec.ofNat 32 j.val) 125#32) 128#32
      = if j.val < 253 then 1#1 else 0#1)
    ∧ (IntOp.subi (BitVec.ofNat 32 j.val) 125#32).toInt = (j.val : ℤ) - 125 := by
  decide +kernel

/-- The reference's `j`-th power of two, `2 ^ (j - 125)` or plus infinity from `2 ^ 128` on. -/
theorem reference_power (j : Fin 256) :
    Scalar.select (IntOp.cmpi .slt (IntOp.subi (BitVec.ofNat 32 j.val) 125#32) 128#32)
      (Ideal.exp2 (((IntOp.subi (BitVec.ofNat 32 j.val) 125#32).toInt : ℝ) : EReal))
      (Ideal.ofBits .f32 0x7F800000#32) = pw (min (j.val + 2) 255) := by
  obtain ⟨h1, h2⟩ := pow_word j
  rw [h1, h2]
  have top : Ideal.ofBits .f32 0x7F800000#32 = (⊤ : EReal) := by rw [← pw_top]; rfl
  by_cases h : j.val < 253
  · have e : min (j.val + 2) 255 = j.val + 2 := by omega
    rw [if_pos h, e, pw_mid _ (by omega) (by omega)]
    show ((Real.rpow 2 _ : ℝ) : EReal) = _
    congr 1
    show (2 : ℝ) ^ (((j.val : ℤ) - 125 : ℤ) : ℝ) = _
    rw [Real.rpow_intCast]; congr 1; push_cast; ring
  · have e : min (j.val + 2) 255 = 255 := by omega
    rw [if_neg h, e, pw_top, top]; rfl

end Cert.Quant
-- ==== Proof.Spec.lean ====
/-  What the program computes, on extended reals, a row or an element at a time: the modulation, the
    layer normalisation, the row quantiser, the output element. -/
module

public import proofs.«01_k».proof.Proof.Quant

@[expose] public section

noncomputable section

namespace Cert.Spec

open Idealize.ShloMosaic

/-- One element of the modulation: a row of `silu(c)` times a column of its weights. -/
def modulation (c w : Fin 1024 → EReal) : EReal :=
  ∑ k : Fin 1024, c k * Ideal.logistic (c k) * w k

/-- The mean of a row. -/
def mean (r : Fin 1024 → EReal) : EReal := Ideal.div (∑ k : Fin 1024, r k) (Ideal.ofBits .f32 0x44800000#32)

/-- A row less its mean. -/
def centred (r : Fin 1024 → EReal) (k : Fin 1024) : EReal := r k - mean r

/-- The normalised row, scaled and shifted. -/
def modulated (r shift scale : Fin 1024 → EReal) (k : Fin 1024) : EReal :=
  centred r k * Ideal.rsqrt (mean (fun k => centred r k * centred r k) + Ideal.ofBits .f32 0x358637BD#32)
    * (1 + scale k) + shift k

/-- A row's largest magnitude. -/
def peak (h : Fin 1024 → EReal) : EReal :=
  Finset.univ.fold max (Ideal.ofBits .f32 0xFF800000#32) fun k : Fin 1024 => max (h k) (-h k)

/-- A row's scale. -/
def rowScale (h : Fin 1024 → EReal) : EReal := Quant.scale (peak h * Ideal.ofBits .f32 0x3B124925#32)

/-- A row's codes: the row over its scale, clipped. -/
def code (h : Fin 1024 → EReal) (k : Fin 1024) : EReal :=
  min (Ideal.ofBits .f32 0x43E00000#32)
    (max (Ideal.ofBits .f32 0xC3E00000#32) (h k * Quant.inverse (rowScale h)))

/-- One element of the output: codes times a column of weights, then scales, bias and gate. -/
def out (q w : Fin 1024 → EReal) (s ws bias gate : EReal) : EReal :=
  ((∑ k : Fin 1024, q k * w k) * s * ws + bias) * gate

/-! ## The arrays -/

/-- The modulation of sample `b`: all its shifts, scales and gates. -/
def modA (c : (⟨2, ![8, 1024]⟩ : Shape).Idx → EReal) (wm : (⟨2, ![1024, 10240]⟩ : Shape).Idx → EReal) (b : Fin 8) (o : Fin 10240) : EReal :=
  modulation (fun k => c (ix2 b k)) (fun k => wm (ix2 k o))

/-- Row `r` of sample `b` after normalisation and modulation. -/
def rowA (x : (⟨3, ![8, 1024, 1024]⟩ : Shape).Idx → EReal) (c : (⟨2, ![8, 1024]⟩ : Shape).Idx → EReal)
    (wm : (⟨2, ![1024, 10240]⟩ : Shape).Idx → EReal) (b : Fin 8) (r : Fin 1024) : Fin 1024 → EReal :=
  modulated (fun k => x (ix3 b r k)) (fun k => modA c wm b ⟨k.val, by omega⟩) (fun k => modA c wm b ⟨1024 + k.val, by omega⟩)

/-- The codes. -/
def codesA (x : (⟨3, ![8, 1024, 1024]⟩ : Shape).Idx → EReal) (c : (⟨2, ![8, 1024]⟩ : Shape).Idx → EReal)
    (wm : (⟨2, ![1024, 10240]⟩ : Shape).Idx → EReal) : (⟨3, ![8, 1024, 1024]⟩ : Shape).Idx → EReal := fun j =>
  code (rowA x c wm (j 0) (j 1)) (j 2)

/-- The scales. -/
def scaleA (x : (⟨3, ![8, 1024, 1024]⟩ : Shape).Idx → EReal) (c : (⟨2, ![8, 1024]⟩ : Shape).Idx → EReal)
    (wm : (⟨2, ![1024, 10240]⟩ : Shape).Idx → EReal) : (⟨3, ![8, 1024, 1]⟩ : Shape).Idx → EReal := fun j =>
  rowScale (rowA x c wm (j 0) (j 1))

/-- The output element of row `r` of sample `b` at column `n`. -/
def yAt (x : (⟨3, ![8, 1024, 1024]⟩ : Shape).Idx → EReal) (c : (⟨2, ![8, 1024]⟩ : Shape).Idx → EReal)
    (wm : (⟨2, ![1024, 10240]⟩ : Shape).Idx → EReal) (w : (⟨2, ![1024, 8192]⟩ : Shape).Idx → EReal)
    (ws bias : (⟨1, ![8192]⟩ : Shape).Idx → EReal) (b : Fin 8) (r : Fin 1024) (n : Fin 8192) : EReal :=
  out (code (rowA x c wm b r)) (fun k => w (ix2 k n)) (rowScale (rowA x c wm b r)) (ws (ix1 n)) (bias (ix1 n))
    (modA c wm b ⟨2048 + n.val, by omega⟩)

/-- The output. -/
def yA (x : (⟨3, ![8, 1024, 1024]⟩ : Shape).Idx → EReal) (c : (⟨2, ![8, 1024]⟩ : Shape).Idx → EReal)
    (wm : (⟨2, ![1024, 10240]⟩ : Shape).Idx → EReal) (w : (⟨2, ![1024, 8192]⟩ : Shape).Idx → EReal)
    (ws bias : (⟨1, ![8192]⟩ : Shape).Idx → EReal) : (⟨3, ![8, 1024, 8192]⟩ : Shape).Idx → EReal := fun j =>
  yAt x c wm w ws bias (j 0) (j 1) (j 2)

end Cert.Spec
-- ==== Proof.KernelRow.lean ====
/-  The kernel's payloads at an element, on extended reals, in the terms of `Spec`. -/
module

public import proofs.«01_k».proof.Proof.BodyIdeal
public import proofs.«01_k».proof.Proof.Spec

@[expose] public section

set_option maxRecDepth 16384

noncomputable section

namespace Cert.KernelIdeal.Hand

open Cert.KernelIdeal Cert.KernelIdeal.Gen Idealize.ShloMosaic

/-- A tile of the modulation. -/
theorem mod_tile (x0 : Vec Ideal S8x1024 .bf16) (x1 : Vec Ideal S1024x2048 .bf16) (a : Fin 8) (b : Fin 2048) :
    k0_pay1 x0 x1 (ix2 a b) = Spec.modulation (fun k => x0 (ix2 a k)) (fun k => x1 (ix2 k b)) := by
  pointwise [k0_pay1, Spec.modulation]

/-- A row after normalisation and modulation. -/
theorem row_tile (sh sc : Vec Ideal S1x1024 .f32) (v : Vec Ideal S1x64x1024 .bf16) (a : Fin 64) (b : Fin 1024) :
    k1_pay3 (k1_pay14 sh) (k1_pay15 sc) v (ix2 a b) = Spec.modulated (fun k => v (ix3 0 a k))
      (fun k => sh (ix2 0 k)) (fun k => sc (ix2 0 k)) b := by
  pointwise [k1_pay3, k1_pay14, k1_pay15, Spec.modulated, Spec.mean, Spec.centred]

/-- A row's largest magnitude. -/
theorem peak_tile (sh sc : FVec Ideal S1x1024 .f32) (v : Vec Ideal S1x64x1024 .bf16) (a : Fin 64) :
    k1_pay4 sh sc v (ix2 a 0) = Spec.peak (fun k => k1_pay3 sh sc v (ix2 a k)) := by
  pointwise [k1_pay4, Spec.peak]
  rfl

/-- A row's largest magnitude over 448. -/
theorem level_tile (sh sc : FVec Ideal S1x1024 .f32) (v : Vec Ideal S1x64x1024 .bf16) (a : Fin 64) :
    k1_pay5 sh sc v (ix2 a 0) = k1_pay4 sh sc v (ix2 a 0) * Ideal.ofBits .f32 0x3B124925#32 := by
  pointwise [k1_pay5]

/-- The exponent field of a row's scale, found bit by bit. -/
theorem field_tile (sh sc : FVec Ideal S1x1024 .f32) (v : Vec Ideal S1x64x1024 .bf16) (a : Fin 64) :
    k1_pay9 (k1_pay5 sh sc v) (k1_pay6 sh sc v) (k1_pay7 sh sc v) k1_pay8 (ix2 a 0)
      = BitVec.ofNat 32 (Quant.field (k1_pay5 sh sc v (ix2 a 0))) := by
  rw [← Quant.steps_eq]
  rfl

/-- The exponent of a row's scale. -/
theorem expo_tile (x : FVec Ideal S64x1 .f32) (f : IVec S64x1 32) (a : Fin 64) :
    k1_pay11 x f k1_pay10 (ix2 a 0) = Quant.expo (Ideal.cmp .oeq (x (ix2 a 0)) 0) (f (ix2 a 0)) := by
  have e : Ideal.ofBits .f32 0x00000000#32 = 0 := Ideal.ofBits_zero_f32
  rw [← e]
  rfl

/-- A row's scale. -/
theorem scale_tile (sh sc : Vec Ideal S1x1024 .f32) (v : Vec Ideal S1x64x1024 .bf16) (a : Fin 64) :
    tripScale sh sc v (ix2 a 0) = Spec.rowScale (Spec.modulated (fun k => v (ix3 0 a k))
      (fun k => sh (ix2 0 k)) (fun k => sc (ix2 0 k))) := by
  have h : tripScale sh sc v (ix2 a 0) = Ideal.ofBits .f32 (Quant.powWord (k1_pay11 (k1_pay4 (k1_pay14 sh) (k1_pay15 sc) v)
      (k1_pay9 (k1_pay5 (k1_pay14 sh) (k1_pay15 sc) v) (k1_pay6 (k1_pay14 sh) (k1_pay15 sc) v)
        (k1_pay7 (k1_pay14 sh) (k1_pay15 sc) v) k1_pay8) k1_pay10 (ix2 a 0))) := rfl
  rw [h, expo_tile, field_tile, level_tile, Quant.kernel_scale, peak_tile, Spec.rowScale]
  simp only [row_tile]

/-- A row's codes. -/
theorem code_tile (sh sc : Vec Ideal S1x1024 .f32) (v : Vec Ideal S1x64x1024 .bf16) (a : Fin 64) (b : Fin 1024) :
    tripCodes sh sc v (ix2 a b) = Spec.code (Spec.modulated (fun k => v (ix3 0 a k))
      (fun k => sh (ix2 0 k)) (fun k => sc (ix2 0 k))) b := by
  have h : tripCodes sh sc v (ix2 a b) = min (Ideal.ofBits .f32 0x43E00000#32) (max (Ideal.ofBits .f32 0xC3E00000#32)
      (k1_pay3 (k1_pay14 sh) (k1_pay15 sc) v (ix2 a b) * Ideal.ofBits .f32 (Quant.powWord (IntOp.subi 0#32
        (k1_pay11 (k1_pay4 (k1_pay14 sh) (k1_pay15 sc) v)
      (k1_pay9 (k1_pay5 (k1_pay14 sh) (k1_pay15 sc) v) (k1_pay6 (k1_pay14 sh) (k1_pay15 sc) v)
        (k1_pay7 (k1_pay14 sh) (k1_pay15 sc) v) k1_pay8) k1_pay10 (ix2 a 0)))))) := by
    generalize hc : k1_pay11 (F := Ideal) _ _ _ = e
    pointwise [tripCodes, k1_pay13]
    rw [hc]
    rfl
  rw [h, expo_tile, field_tile, level_tile, Quant.kernel_inverse, peak_tile, Spec.code, Spec.rowScale]
  simp only [row_tile]

/-- A tile of the output. -/
theorem out_tile (g ws : Vec Ideal S1x512 .f32) (bi : Vec Ideal S1x512 .bf16) (w : Vec Ideal S1024x512 .fp8e4m3)
    (q : Vec Ideal S1x256x1024 .fp8e4m3) (s : Vec Ideal S256x128 .f32) (s' : EReal) (a : Fin 256) (b : Fin 512)
    (hs : ∀ l : Fin 128, s (ix2 a l) = s') :
    k1_pay22 g ws bi w q s (ix3 0 a b) = Spec.out (fun k => q (ix3 0 a k)) (fun k => w (ix2 k b)) s' (ws (ix2 0 b))
      (bi (ix2 0 b)) (g (ix2 0 b)) := by
  pointwise [k1_pay22, k1_pay19, k1_pay20, k1_pay21, Spec.out, hs, dite_eq_ite, ite_self]

/-! ## A sample's codes and scales, and a point's block of the output -/

/-- The codes of a sample, an element at a time. -/
theorem codes_at (sh sc : Vec Ideal S1x1024 .f32) (x0 : Vec Ideal S1x1024x1024 .bf16) (r d : Fin 1024) :
    codesV sh sc x0 (ix3 0 r d) = Spec.code (Spec.modulated (fun k => x0 (ix3 0 r k))
      (fun k => sh (ix2 0 k)) (fun k => sc (ix2 0 k))) d := by
  have e : ∀ k : Fin 1024, xRows x0 (blkOf r) (ix3 0 (locOf r) k) = x0 (ix3 0 r k) := fun k => by
    show x0 _ = x0 _
    congr 1
    have : 64 * (r.val / 64) + r.val % 64 = r.val := Nat.div_add_mod r.val 64
    exact congrArg (fun q => ix3 0 q k) (Fin.ext this)
  have h : codesV sh sc x0 (ix3 0 r d) = k1_pay16 (tripCodes sh sc (xRows x0 (blkOf r))) (ix3 0 (locOf r) d) := rfl
  have h' : ∀ q : FVec Ideal S64x1024 .fp8e4m3, k1_pay16 q (ix3 0 (locOf r) d) = q (ix2 (locOf r) d) := fun q => by
    pointwise [k1_pay16]
  rw [h, h', code_tile]
  simp only [e]

/-- The scales of a sample, an element at a time. -/
theorem scales_at (sh sc : Vec Ideal S1x1024 .f32) (x0 : Vec Ideal S1x1024x1024 .bf16) (r : Fin 1024) :
    scaleV sh sc x0 (ix3 0 r 0) = Spec.rowScale (Spec.modulated (fun k => x0 (ix3 0 r k))
      (fun k => sh (ix2 0 k)) (fun k => sc (ix2 0 k))) := by
  have e : ∀ k : Fin 1024, xRows x0 (blkOf r) (ix3 0 (locOf r) k) = x0 (ix3 0 r k) := fun k => by
    show x0 _ = x0 _
    congr 1
    have : 64 * (r.val / 64) + r.val % 64 = r.val := Nat.div_add_mod r.val 64
    exact congrArg (fun q => ix3 0 q k) (Fin.ext this)
  have h : scaleV sh sc x0 (ix3 0 r 0) = k1_pay17 (tripScale sh sc (xRows x0 (blkOf r))) (ix3 0 (locOf r) 0) := rfl
  have h' : ∀ q : FVec Ideal S64x1 .f32, k1_pay17 q (ix3 0 (locOf r) 0) = q (ix2 (locOf r) 0) := fun q => by
    pointwise [k1_pay17]
  rw [h, h', scale_tile]
  simp only [e]

/-- Every lane of the scratch holds its row's scale. -/
theorem lanes_at (sh sc : Vec Ideal S1x1024 .f32) (x0 : Vec Ideal S1x1024x1024 .bf16) (r : Fin 1024) (l : Fin 128) :
    scrV sh sc x0 (ix2 r l) = scaleV sh sc x0 (ix3 0 r 0) := by
  have h : scrV sh sc x0 (ix2 r l) = k1_pay18 (tripScale sh sc (xRows x0 (blkOf r))) (ix2 (locOf r) l) := rfl
  have h' : scaleV sh sc x0 (ix3 0 r 0) = k1_pay17 (tripScale sh sc (xRows x0 (blkOf r))) (ix3 0 (locOf r) 0) := rfl
  rw [h, h']
  generalize tripScale sh sc (xRows x0 (blkOf r)) = q
  pointwise [k1_pay18, k1_pay17]

/-- A point's block of the output, an element at a time. -/
theorem y_at (i : grid1.Coords) (x1 : Vec Ideal S8x10240 .f32) (x2 : Vec Ideal S1024x8192 .fp8e4m3) (x3 : Vec Ideal S1x8192 .f32)
    (x4 : Vec Ideal S1x8192 .bf16) (xc : Vec Ideal S1x1024x1024 .fp8e4m3) (xs : Vec Ideal S1024x128 .f32) (s' : EReal)
    (r : Fin 1024) (n : Fin 2048) (hs : ∀ l : Fin 128, xs (ix2 r l) = s') (b : Fin 8) (N : Fin 8192) (N' : Fin 10240)
    (hb : (i 0).val = b.val) (hN : 2048 * (i 1).val + n.val = N.val) (hN' : N'.val = 2048 + N.val) :
    yV i x1 x2 x3 x4 xc xs (ix3 0 r n) = Spec.out (fun k => xc (ix3 0 r k)) (fun k => x2 (ix2 k N)) s' (x3 (ix2 0 N))
      (x4 (ix2 0 N)) (x1 (ix2 b N')) := by
  have hr : 256 * (r.val / 256) + r.val % 256 = r.val := Nat.div_add_mod r.val 256
  have hn : 512 * (n.val / 512) + n.val % 512 = n.val := Nat.div_add_mod n.val 512
  have h : yV i x1 x2 x3 x4 xc xs (ix3 0 r n) = yTile i x1 x2 x3 x4 xc xs ⟨r.val / 256, by omega⟩ ⟨n.val / 512, by omega⟩
    (ix3 0 (⟨r.val % 256, Nat.mod_lt _ (by decide)⟩ : Fin 256) (⟨n.val % 512, Nat.mod_lt _ (by decide)⟩ : Fin 512)) := rfl
  rw [h, yTile, out_tile (s' := s')]
  · have e1 : ∀ k : Fin 1024, codesT xc ⟨r.val / 256, by omega⟩ (ix3 0 (⟨r.val % 256, Nat.mod_lt _ (by decide)⟩ : Fin 256) k)
        = xc (ix3 0 r k) := fun k => by
      show xc _ = xc _
      congr 1
      exact congrArg (fun q => ix3 0 q k) (Fin.ext hr)
    have e2 : ∀ k : Fin 1024, wT i x2 ⟨n.val / 512, by omega⟩ (ix2 k (⟨n.val % 512, Nat.mod_lt _ (by decide)⟩ : Fin 512))
        = x2 (ix2 k N) := fun k => by
      show x2 _ = x2 _
      congr 1
      refine congrArg (fun q => ix2 k q) (Fin.ext ?_)
      show 2048 * (i 1).val + 512 * (n.val / 512) + n.val % 512 = N.val
      omega
    have e3 : colT i x3 ⟨n.val / 512, by omega⟩ (ix2 0 (⟨n.val % 512, Nat.mod_lt _ (by decide)⟩ : Fin 512)) = x3 (ix2 0 N) := by
      show x3 _ = x3 _
      congr 1
      refine congrArg (fun q => ix2 0 q) (Fin.ext ?_)
      show 2048 * (i 1).val + 512 * (n.val / 512) + n.val % 512 = N.val
      omega
    have e4 : colT i x4 ⟨n.val / 512, by omega⟩ (ix2 0 (⟨n.val % 512, Nat.mod_lt _ (by decide)⟩ : Fin 512)) = x4 (ix2 0 N) := by
      show x4 _ = x4 _
      congr 1
      refine congrArg (fun q => ix2 0 q) (Fin.ext ?_)
      show 2048 * (i 1).val + 512 * (n.val / 512) + n.val % 512 = N.val
      omega
    have e5 : gateT i x1 ⟨n.val / 512, by omega⟩ (ix2 0 (⟨n.val % 512, Nat.mod_lt _ (by decide)⟩ : Fin 512)) = x1 (ix2 b N') := by
      show x1 _ = x1 _
      congr 1
      refine congrArg₂ (fun p q => ix2 p q) (Fin.ext hb) (Fin.ext ?_)
      show 2048 * (i 1).val + 512 * (n.val / 512) + 2048 + n.val % 512 = N'.val
      omega
    simp only [e1, e2, e3, e4, e5]
  · intro l
    rw [← hs l]
    show xs _ = xs _
    congr 1
    exact congrArg (fun q => ix2 q l) (Fin.ext hr)

end Cert.KernelIdeal.Hand
-- ==== Proof.KernelValue.lean ====
/-  The kernel's three result arrays after the run, on extended reals, as functions of the arguments. -/
module

public import proofs.«01_k».proof.Proof.RunIdeal
public import proofs.«01_k».proof.Proof.KernelRow
public import Idealize.ShloMosaic.Lib.StableHlo.ReadAt
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

section Region0
variable (V : (c : Dev nD) → (b : Ref sig .tc) → Buf (Elt Ideal) ((c : Thread nD τ).loc b))

theorem idx0_0 : ∀ t, win0_0.index t = ![0, 0] := (by decide +kernel : ∀ t : Fin grid0.N, win0_0.index t = ![0, 0])
theorem idx0_1 : ∀ t, win0_1.index t = ![0, t.val] := (by decide +kernel : ∀ t : Fin grid0.N, win0_1.index t = ![0, t.val])
theorem idx0_2 : ∀ t, win0_2.index t = ![0, t.val] := (by decide +kernel : ∀ t : Fin grid0.N, win0_2.index t = ![0, t.val])

/-- The conditioning window is the whole array. -/
theorem cond_at (c : Dev nD) (t : Fin cfg0.N) (a : Fin 8) (k : Fin 1024) :
    iblk0 V c 0 t (ix2 a k) = V c main_arg1 (ix2 a k) := by
  blk_ext [iblk0, idx0_0 t]

/-- A point's block of the modulation's weights. -/
theorem wmod_at (c : Dev nD) (t : Fin cfg0.N) (k : Fin 1024) (b : Fin 2048) (o : Fin 10240) (ho : t.val * 2048 + b.val = o.val) :
    iblk0 V c 1 t (ix2 k b) = V c main_arg2 (ix2 k o) := by
  blk_ext [iblk0, idx0_1 t]

/-- The modulation array after the first launch. -/
theorem mod_value (c : Dev nD) : (dat0 V c).arrAt 2 cfg0.N
    = fun j => Spec.modA (V c main_arg1) (V c main_arg2) (j 0) (j 1) := by
  refine (dat0 V c).arrAt_eq_of_covers 2 _ (by decide +kernel) fun t hf y => ?_
  blk_simp [idx0_2]
  rw [after0_2]
  unfold out0_2
  frame_out
  have hy : ∀ j : S8x10240.Idx, (j 0).val = (y 0).val → (j 1).val = t.val * 2048 + (y 1).val →
      k0_pay1 (iblk0 V c 0 t) (iblk0 V c 1 t) y = Spec.modA (V c main_arg1) (V c main_arg2) (j 0) (j 1) := fun j h0 h1 => by
    obtain ⟨a, b, rfl⟩ : ∃ (a : Fin 8) (b : Fin 2048), y = ix2 a b := ⟨y 0, y 1, eq_ix2 y⟩
    obtain ⟨p, o, rfl⟩ : ∃ (p : Fin 8) (o : Fin 10240), j = ix2 p o := ⟨j 0, j 1, eq_ix2 j⟩
    have hp : p = a := Fin.ext h0
    subst hp
    rw [mod_tile]
    show _ = Spec.modulation (fun k => V c main_arg1 (ix2 p k)) (fun k => V c main_arg2 (ix2 k o))
    congr 1
    · funext k; exact cond_at V c t p k
    · funext k; exact wmod_at V c t k b o h1.symm
  refine hy _ ?_ ?_
  · blk_simp [idx0_2 t]
  · blk_simp [idx0_2 t]
end Region0

section Region1
variable (V : (c : Dev nD) → (b : Ref sig .tc) → Buf (Elt Ideal) ((c : Thread nD τ).loc b))

theorem idx1_0 : ∀ t, win1_0.index t = ![t.val / 4, 0, 0] := (by decide +kernel : ∀ t : Fin grid1.N, win1_0.index t = ![t.val / 4, 0, 0])
theorem idx1_1 : ∀ t, win1_1.index t = ![0, 0] := (by decide +kernel : ∀ t : Fin grid1.N, win1_1.index t = ![0, 0])
theorem idx1_2 : ∀ t, win1_2.index t = ![0, 0] := (by decide +kernel : ∀ t : Fin grid1.N, win1_2.index t = ![0, 0])
theorem idx1_3 : ∀ t, win1_3.index t = ![0, 0] := (by decide +kernel : ∀ t : Fin grid1.N, win1_3.index t = ![0, 0])
theorem idx1_4 : ∀ t, win1_4.index t = ![0, 0] := (by decide +kernel : ∀ t : Fin grid1.N, win1_4.index t = ![0, 0])
theorem idx1_5 : ∀ t, win1_5.index t = ![t.val / 4, 0, t.val % 4] := (by decide +kernel : ∀ t : Fin grid1.N, win1_5.index t = ![t.val / 4, 0, t.val % 4])
theorem idx1_6 : ∀ t, win1_6.index t = ![t.val / 4, 0, 0] := (by decide +kernel : ∀ t : Fin grid1.N, win1_6.index t = ![t.val / 4, 0, 0])
theorem idx1_7 : ∀ t, win1_7.index t = ![t.val / 4, 0, 0] := (by decide +kernel : ∀ t : Fin grid1.N, win1_7.index t = ![t.val / 4, 0, 0])

/-- A point's sample. -/
theorem x_at (c : Dev nD) (t : Fin cfg1.N) (r k : Fin 1024) (b : Fin 8) (hb : b.val = t.val / 4) :
    iblk1 V c 0 t (ix3 0 r k) = V c main_arg0 (ix3 b r k) := by
  blk_ext [iblk1, idx1_0 t]
/-- The modulation window is the whole array, -/
theorem mod_at (c : Dev nD) (t : Fin cfg1.N) (b : Fin 8) (o : Fin 10240) :
    iblk1 V c 1 t (ix2 b o) = V c main_v0 (ix2 b o) := by
  blk_ext [iblk1, idx1_1 t]
/-- as are the weight's, -/
theorem w_at (c : Dev nD) (t : Fin cfg1.N) (k : Fin 1024) (n : Fin 8192) :
    iblk1 V c 2 t (ix2 k n) = V c main_arg3 (ix2 k n) := by
  blk_ext [iblk1, idx1_2 t]
/-- the column scales' -/
theorem ws_at (c : Dev nD) (t : Fin cfg1.N) (n : Fin 8192) :
    iblk1 V c 3 t (ix2 0 n) = V c main_v1 (ix2 0 n) := by
  blk_ext [iblk1, idx1_3 t]
/-- and the bias's. -/
theorem bias_at (c : Dev nD) (t : Fin cfg1.N) (n : Fin 8192) :
    iblk1 V c 4 t (ix2 0 n) = V c main_v2 (ix2 0 n) := by
  blk_ext [iblk1, idx1_4 t]

/-- The point's coordinates: its sample and its block of columns. -/
theorem coord0 (t : Fin cfg1.N) : (grid1.coords t 0).val = t.val / 4 := by
  have ht : t.val < 32 := Nat.lt_of_lt_of_eq t.isLt N_1
  have e0 : (grid1.coords t 0).val = t.val / 4 % 8 := Pipeline.Grid.coords_val t 0 (by decide) rfl
  omega
theorem coord1 (t : Fin cfg1.N) : (grid1.coords t 1).val = t.val % 4 := by
  have e1 : (grid1.coords t 1).val = t.val / 1 % 4 := Pipeline.Grid.coords_val t 1 (by decide) rfl
  omega

/-- Row `r` of the sample of point `t`, from the launch's arrays. -/
def rowOf (c : Dev nD) (b : Fin 8) (r : Fin 1024) : Fin 1024 → EReal :=
  Spec.modulated (fun k => V c main_arg0 (ix3 b r k)) (fun k => V c main_v0 (ix2 b (⟨k.val, by omega⟩ : Fin 10240)))
    (fun k => V c main_v0 (ix2 b (⟨1024 + k.val, by omega⟩ : Fin 10240)))

/-- The rows a point quantised, or that were quantised at its sample's first point. -/
theorem row_at (c : Dev nD) (t : Fin cfg1.N) (b : Fin 8) (hb : b.val = t.val / 4) (r : Fin 1024) :
    Spec.modulated (fun k => iblk1 V c 0 (base t) (ix3 0 r k)) (fun k => shAt V c t (ix2 0 k)) (fun k => scAt V c t (ix2 0 k))
      = rowOf V c b r := by
  have hbase : (base t).val = t.val / 4 * 4 := rfl
  have e0 : ∀ k, iblk1 V c 0 (base t) (ix3 0 r k) = V c main_arg0 (ix3 b r k) := fun k =>
    x_at V c (base t) r k b (by rw [hbase]; omega)
  have hc : (grid1.coords (base t) 0).val = b.val := by rw [coord0, hbase]; omega
  have e1 : ∀ k : Fin 1024, shAt V c t (ix2 0 k) = V c main_v0 (ix2 b (⟨k.val, by omega⟩ : Fin 10240)) := fun k => by
    rw [← mod_at V c (base t)]
    show iblk1 V c 1 (base t) _ = iblk1 V c 1 (base t) _
    congr 1
    refine congrArg₂ (fun p q => ix2 p q) (Fin.ext hc) (Fin.ext ?_)
    show 0 + k.val = k.val
    omega
  have e2 : ∀ k : Fin 1024, scAt V c t (ix2 0 k) = V c main_v0 (ix2 b (⟨1024 + k.val, by omega⟩ : Fin 10240)) := fun k => by
    rw [← mod_at V c (base t)]
    show iblk1 V c 1 (base t) _ = iblk1 V c 1 (base t) _
    congr 1
    exact congrArg₂ (fun p q => ix2 p q) (Fin.ext hc) (Fin.ext rfl)
  unfold rowOf
  simp only [e0, e1, e2]

/-- The codes array after the second launch. -/
theorem codes_value (c : Dev nD) : (dat1 V c).arrAt 6 cfg1.N
    = fun j : S8x1024x1024.Idx => Spec.code (rowOf V c (j 0) (j 1)) (j 2) := by
  refine (dat1 V c).arrAt_eq_of_covers 6 _ (by decide +kernel) fun t hf y => ?_
  blk_simp [idx1_6]
  rw [after1_6]
  have hy : ∀ j : S8x1024x1024.Idx, (j 0).val = t.val / 4 + (y 0).val → (j 1).val = (y 1).val → (j 2).val = (y 2).val →
      codesAt V c t y = Spec.code (rowOf V c (j 0) (j 1)) (j 2) := fun j h0 h1 h2 => by
    obtain ⟨z, r, d, rfl⟩ : ∃ (z : Fin 1) (r d : Fin 1024), y = ix3 z r d := ⟨y 0, y 1, y 2, eq_ix3 y⟩
    obtain ⟨b, r', d', rfl⟩ : ∃ (b : Fin 8) (r' d' : Fin 1024), j = ix3 b r' d' := ⟨j 0, j 1, j 2, eq_ix3 j⟩
    have hr : r' = r := Fin.ext h1
    have hd : d' = d := Fin.ext h2
    have hz : z = 0 := Subsingleton.elim _ _
    subst hr hd hz
    unfold codesAt
    rw [codes_at, row_at V c t b (by simpa using h0)]
    rfl
  refine hy _ ?_ ?_ ?_ <;> blk_simp [idx1_6 t]

/-- The scales array after the second launch. -/
theorem scale_value (c : Dev nD) : (dat1 V c).arrAt 7 cfg1.N
    = fun j : S8x1024x1.Idx => Spec.rowScale (rowOf V c (j 0) (j 1)) := by
  refine (dat1 V c).arrAt_eq_of_covers 7 _ (by decide +kernel) fun t hf y => ?_
  blk_simp [idx1_7]
  rw [after1_7]
  have hy : ∀ j : S8x1024x1.Idx, (j 0).val = t.val / 4 + (y 0).val → (j 1).val = (y 1).val →
      scaleAt V c t y = Spec.rowScale (rowOf V c (j 0) (j 1)) := fun j h0 h1 => by
    obtain ⟨z, r, d, rfl⟩ : ∃ (z : Fin 1) (r : Fin 1024) (d : Fin 1), y = ix3 z r d := ⟨y 0, y 1, y 2, eq_ix3 y⟩
    obtain ⟨b, r', d', rfl⟩ : ∃ (b : Fin 8) (r' : Fin 1024) (d' : Fin 1), j = ix3 b r' d' := ⟨j 0, j 1, j 2, eq_ix3 j⟩
    have hr : r' = r := Fin.ext h1
    have hd : d = 0 := Subsingleton.elim _ _
    have hz : z = 0 := Subsingleton.elim _ _
    subst hr hd hz
    unfold scaleAt
    rw [scales_at, row_at V c t b (by simpa using h0)]
    rfl
  refine hy _ ?_ ?_ <;> blk_simp [idx1_7 t]

/-- One output of the second launch, from its arrays. -/
def outOf (c : Dev nD) (b : Fin 8) (r : Fin 1024) (n : Fin 8192) : EReal :=
  Spec.out (Spec.code (rowOf V c b r)) (fun k => V c main_arg3 (ix2 k n)) (Spec.rowScale (rowOf V c b r))
    (V c main_v1 (ix2 0 n)) (V c main_v2 (ix2 0 n)) (V c main_v0 (ix2 b (⟨2048 + n.val, by omega⟩ : Fin 10240)))

/-- The output array after the second launch. -/
theorem y_value (c : Dev nD) : (dat1 V c).arrAt 5 cfg1.N
    = fun j : S8x1024x8192.Idx => outOf V c (j 0) (j 1) (j 2) := by
  refine (dat1 V c).arrAt_eq_of_covers 5 _ (by decide +kernel) fun t hf y => ?_
  blk_simp [idx1_5]
  rw [after1_5]
  have hy : ∀ j : S8x1024x8192.Idx, (j 0).val = t.val / 4 + (y 0).val → (j 1).val = (y 1).val →
      (j 2).val = t.val % 4 * 2048 + (y 2).val →
      yAt V c t y = outOf V c (j 0) (j 1) (j 2) := fun j h0 h1 h2 => by
    obtain ⟨z, r, n, rfl⟩ : ∃ (z : Fin 1) (r : Fin 1024) (n : Fin 2048), y = ix3 z r n := ⟨y 0, y 1, y 2, eq_ix3 y⟩
    obtain ⟨b, r', m, rfl⟩ : ∃ (b : Fin 8) (r' : Fin 1024) (m : Fin 8192), j = ix3 b r' m := ⟨j 0, j 1, j 2, eq_ix3 j⟩
    have hr : r' = r := Fin.ext h1
    have hz : z = 0 := Subsingleton.elim _ _
    subst hr hz
    have hb : b.val = t.val / 4 := by simpa using h0
    have h2' : m.val = t.val % 4 * 2048 + n.val := h2
    have hs : ∀ l : Fin 128, scrAt V c t (ix2 r' l) = Spec.rowScale (rowOf V c b r') := fun l => by
      unfold scrAt
      rw [lanes_at, scales_at, row_at V c t b hb]
    unfold Hand.yAt
    rw [y_at _ _ _ _ _ _ _ _ r' n hs b m (⟨2048 + m.val, by omega⟩ : Fin 10240) (by rw [coord0, hb]) (by rw [coord1]; omega) rfl]
    have hq : ∀ k : Fin 1024, codesAt V c t (ix3 0 r' k) = Spec.code (rowOf V c b r') k := fun k => by
      unfold codesAt
      rw [codes_at, row_at V c t b hb]
    simp only [hq, w_at, ws_at, bias_at, mod_at]
    rfl
  refine hy _ ?_ ?_ ?_ <;> blk_simp [idx1_5 t]
end Region1

/-! ## The results after the run -/

section Results
variable (m : (ℓ : Loc nD τ sig) → Buf (Elt Ideal) ℓ) (ρ : Dev nD → PrngReg)

/-- The second launch finds the modulation that the first left, -/
theorem mod_in (c : Dev nD) (b : Fin 8) (o : Fin 10240) : V2 m ρ c main_v0 (ix2 b o)
    = Spec.modA (m ((c : Thread nD τ).loc main_arg1)) (m ((c : Thread nD τ).loc main_arg2)) b o := by
  have e : V2 m ρ c main_v0 = (dat0 (V0 m ρ) c).arrAt 2 cfg0.N := (W2_of m ρ c main_v0 (by decide)).trans (W1_arr m ρ c 2)
  rw [e, mod_value]
  rfl

/-- the column scales, reshaped, -/
theorem ws_in (c : Dev nD) (n : Fin 8192) : V2 m ρ c main_v1 (ix2 0 n) = m ((c : Thread nD τ).loc main_arg4) (ix1 n) := by
  have e : W1 m ρ c (Proc.devRef .tc main_arg4) = m ((c : Thread nD τ).loc main_arg4) := W1_args m ρ c _ (by decide)
  rw [← e]
  show StableHlo.after hostOps1 (W1 m ρ c) (Proc.devRef .tc main_v1) (ix2 0 n) = _
  generalize W1 m ρ c = X
  after_reads_at

/-- the bias, reshaped, -/
theorem bias_in (c : Dev nD) (n : Fin 8192) : V2 m ρ c main_v2 (ix2 0 n) = m ((c : Thread nD τ).loc main_arg5) (ix1 n) := by
  have e : W1 m ρ c (Proc.devRef .tc main_arg5) = m ((c : Thread nD τ).loc main_arg5) := W1_args m ρ c _ (by decide)
  rw [← e]
  show StableHlo.after hostOps1 (W1 m ρ c) (Proc.devRef .tc main_v2) (ix2 0 n) = _
  generalize W1 m ρ c = X
  after_reads_at

/-- and the arguments as launched. -/
theorem x_in (c : Dev nD) : V2 m ρ c main_arg0 = m ((c : Thread nD τ).loc main_arg0) := W2_args m ρ c _ (by decide)
theorem w_in (c : Dev nD) : V2 m ρ c main_arg3 = m ((c : Thread nD τ).loc main_arg3) := W2_args m ρ c _ (by decide)

/-- So its rows are the arguments' modulated rows. -/
theorem row_in (c : Dev nD) (b : Fin 8) (r : Fin 1024) : rowOf (V2 m ρ) c b r
    = Spec.rowA (m ((c : Thread nD τ).loc main_arg0)) (m ((c : Thread nD τ).loc main_arg1)) (m ((c : Thread nD τ).loc main_arg2)) b r := by
  unfold rowOf Spec.rowA
  congr 1
  · funext k; exact mod_in m ρ c b _
  · funext k; exact mod_in m ρ c b _

/-- The output after the run. -/
theorem y_result (c : Dev nD) : W3 m ρ c (Proc.devRef .tc main_v3_0)
    = Spec.yA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W3_arr m ρ c 5).trans ((y_value (V2 m ρ) c).trans ?_)
  funext j
  obtain ⟨b, r, n, rfl⟩ : ∃ (b : Fin 8) (r : Fin 1024) (n : Fin 8192), j = ix3 b r n := ⟨j 0, j 1, j 2, eq_ix3 j⟩
  show outOf (V2 m ρ) c b r n = Spec.yAt _ _ _ _ _ _ b r n
  unfold outOf Spec.yAt
  rw [row_in]
  congr 1
  · exact ws_in m ρ c n
  · exact bias_in m ρ c n
  · exact mod_in m ρ c b _

/-- The codes after the run. -/
theorem codes_result (c : Dev nD) : W3 m ρ c (Proc.devRef .tc main_v3_1)
    = Spec.codesA (m ((c : Thread nD τ).loc main_arg0)) (m ((c : Thread nD τ).loc main_arg1)) (m ((c : Thread nD τ).loc main_arg2)) := by
  refine (W3_arr m ρ c 6).trans ((codes_value (V2 m ρ) c).trans ?_)
  funext j
  exact congrArg (fun q => Spec.code q (j 2)) (row_in m ρ c (j 0) (j 1))

/-- The scales after the run. -/
theorem scale_result (c : Dev nD) : W3 m ρ c (Proc.devRef .tc main_v3_2)
    = Spec.scaleA (m ((c : Thread nD τ).loc main_arg0)) (m ((c : Thread nD τ).loc main_arg1)) (m ((c : Thread nD τ).loc main_arg2)) := by
  refine (W3_arr m ρ c 7).trans ((scale_value (V2 m ρ) c).trans ?_)
  funext j
  exact congrArg Spec.rowScale (row_in m ρ c (j 0) (j 1))

/-- Every run ends with the three results at these values and the arguments as launched. -/
theorem run_value : θ_run defs (onTc (τ := τ) (main (F := Ideal))) ⟨m, fun _ => 0, ρ⟩ (fun r => ∀ c : Dev nD,
      r.2.mem ((c : Thread nD τ).loc main_v3_0) = Spec.yA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_v3_1) = Spec.codesA (m ((c : Thread nD τ).loc main_arg0)) (m ((c : Thread nD τ).loc main_arg1)) (m ((c : Thread nD τ).loc main_arg2))
      ∧ r.2.mem ((c : Thread nD τ).loc main_v3_2) = Spec.scaleA (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c =>
    ⟨(h.1 c _ (mem_uc main_v3_0 (by decide))).trans (y_result m ρ c),
     (h.1 c _ (mem_uc main_v3_1 (by decide))).trans (codes_result m ρ c),
     (h.1 c _ (mem_uc main_v3_2 (by decide))).trans (scale_result m ρ c),
     (h.1 c _ (mem_uc main_arg0 (by decide))).trans (W3_main_arg0 m ρ c),
     (h.1 c _ (mem_uc main_arg1 (by decide))).trans (W3_main_arg1 m ρ c),
     (h.1 c _ (mem_uc main_arg2 (by decide))).trans (W3_main_arg2 m ρ c),
     (h.1 c _ (mem_uc main_arg3 (by decide))).trans (W3_main_arg3 m ρ c),
     (h.1 c _ (mem_uc main_arg4 (by decide))).trans (W3_main_arg4 m ρ c),
     (h.1 c _ (mem_uc main_arg5 (by decide))).trans (W3_main_arg5 m ρ c)⟩) (run_full m ρ)
end Results

end Cert.KernelIdeal.Hand
-- ==== Proof.RefValue.lean ====
/-  The reference's three results after a run, on extended reals: the host operations before its call, the
    call's values at an index, then the whole arrays. -/
module

public import proofs.«01_k».proof.Proof.Gen.ReferenceIdeal.Value
public import proofs.«01_k».proof.Proof.Spec
public import Idealize.ShloMosaic.Lib.StableHlo.ReadAt
public import Idealize.ShloMosaic.Lib.Pipeline.ValueKit

@[expose] public section

noncomputable section

namespace Cert.ReferenceIdeal.Hand

open Cert.ReferenceIdeal Cert.ReferenceIdeal.Gen Idealize.ShloMosaic Idealize.ShloMosaic.TcCoe Idealize.SL.Sem

/-! ## The call's values at an index -/

/-- The table of powers of two, a lane each. -/
def table : FVec Ideal S1x1x256 .f32 :=
  select (cmpi .slt (subi (iota .tc S1x1x256 32 [2] iota_S1x1x256_d2_w32) (broadcast S1x1x256 125#32)) (broadcast S1x1x256 128#32))
    (exp2 (sitofp .f32 (subi (iota .tc S1x1x256 32 [2] iota_S1x1x256_d2_w32) (broadcast S1x1x256 125#32))))
    (broadcast S1x1x256 (Scalar.ofBits .f32 0x7F800000#32))

/-- A lane of the table. -/
theorem table_at (j : Fin 256) : table (ix3 0 0 j) = Quant.pw (min (j.val + 2) 255) := by
  pointwise [table]
  exact Quant.reference_power j

/-- The least power above each row's level. -/
def pick (v6 : FVec Ideal S8x1024x1 .f32) : FVec Ideal S8x1024x1 .f32 :=
  shapeCast S8x1024x1 (multiReduction .minimumf [2] S8x1024 (select (cmpf .ogt (broadcastTo S8x1024x256 table broadcasts_S1x1x256_S8x1024x256) (broadcastTo S8x1024x256 v6 broadcasts_S8x1024x1_S8x1024x256))
    (broadcastTo S8x1024x256 (shapeCast S1x1x256 table shapeCasts_S1x1x256_S1x1x256) broadcasts_S1x1x256_S8x1024x256) (broadcast S8x1024x256 (Scalar.ofBits .f32 0x7F800000#32))) 0x7F800000#32 reduces_S8x1024x256_S8x1024 (.inl rfl) rfl) shapeCasts_S8x1024_S8x1024x1

/-- It at a row. -/
theorem pick_at (v6 : FVec Ideal S8x1024x1 .f32) (b : Fin 8) (r : Fin 1024) :
    pick v6 (ix3 b r 0) = Finset.univ.fold min ⊤ fun j : Fin 256 => if v6 (ix3 b r 0) < Quant.pw (min (j.val+2) 255) then Quant.pw (min (j.val+2) 255) else ⊤ := by
  have htop : Ideal.ofBits .f32 0x7F800000#32 = ⊤ := by rw [← Quant.pw_top]; rfl
  unfold pick
  generalize ht : table = tb
  pointwise []
  subst ht
  simp only [table_at, htop]

/-- A row's scale: the least power above its level, or one where the level is too small or infinite. -/
theorem guard_at (v6 p : FVec Ideal S8x1024x1 .f32) (b : Fin 8) (r : Fin 1024)
    (hp : p (ix3 b r 0) = Finset.univ.fold min ⊤ fun j : Fin 256 => if v6 (ix3 b r 0) < Quant.pw (min (j.val+2) 255) then Quant.pw (min (j.val+2) 255) else ⊤) :
    select (ori (cmpf .olt v6 (broadcast S8x1024x1 (Scalar.ofBits .f32 0x00800000#32))) (cmpf .oeq v6 (broadcast S8x1024x1 (Scalar.ofBits .f32 0x7F800000#32))))
      (broadcast S8x1024x1 (Scalar.ofBits .f32 0x3F800000#32)) p (ix3 b r 0) = Quant.scale (v6 (ix3 b r 0)) := by
  have htop : Ideal.ofBits .f32 0x7F800000#32 = ⊤ := by rw [← Quant.pw_top]; rfl
  have hone : Ideal.ofBits .f32 0x00800000#32 = Quant.pw 1 := rfl
  pointwise []
  rw [htop, hone, hp]
  generalize v6 (ix3 b r 0) = v
  unfold Quant.scale
  by_cases h1 : v < Quant.pw 1 <;> by_cases h2 : v = ⊤ <;> simp [h1, h2, Scalar.select, IntOp.ori]

/-- The row maxima of an array. -/
theorem max_at (h : FVec Ideal S8x1024x1024 .f32) (b : Fin 8) (r : Fin 1024) :
    multiReduction .maximumf [2] S8x1024 h 0xFF800000#32 reduces_S8x1024x1024_S8x1024 (.inl rfl) rfl (ix2 b r)
      = Finset.univ.fold max (Ideal.ofBits .f32 0xFF800000#32) fun k : Fin 1024 => h (ix3 b r k) := by
  pointwise []

/-- A column of row values times the constant. -/
theorem level_at (w : FVec Ideal S8x1024 .f32) (b : Fin 8) (r : Fin 1024) :
    mulf (shapeCast S8x1024x1 w shapeCasts_S8x1024_S8x1024x1) (broadcast S8x1024x1 (Scalar.ofBits .f32 0x3B124925#32)) (ix3 b r 0)
      = w (ix2 b r) * Ideal.ofBits .f32 0x3B124925#32 := by
  pointwise []

/-- A row's largest magnitude times the constant. -/
theorem absmax_at (h : FVec Ideal S8x1024x1024 .f32) (b : Fin 8) (r : Fin 1024) :
    mulf (shapeCast S8x1024x1 (multiReduction .maximumf [2] S8x1024 (absf h) 0xFF800000#32 reduces_S8x1024x1024_S8x1024 (.inl rfl) rfl) shapeCasts_S8x1024_S8x1024x1)
      (broadcast S8x1024x1 (Scalar.ofBits .f32 0x3B124925#32)) (ix3 b r 0) = Spec.peak (fun k => h (ix3 b r k)) * Ideal.ofBits .f32 0x3B124925#32 := by
  rw [level_at, max_at]
  rfl

/-- The cast to its own shape does nothing. -/
theorem same (h : Vec Ideal S8x1024x1024 .f32) : k0_pay3 (F := Ideal) h = h := by
  funext j; idx_vars j; pointwise [k0_pay3]

/-- A row's scale, from the row. -/
theorem scale_row (h : Vec Ideal S8x1024x1024 .f32) (b : Fin 8) (r : Fin 1024) :
    k0_pay4 (F := Ideal) h (ix3 b r 0) = Spec.rowScale (fun k => h (ix3 b r k)) := by
  unfold k0_pay4 Spec.rowScale
  rw [same, ← absmax_at]
  exact guard_at _ (pick _) b r (pick_at _ b r)

/-- A row's quotient, clipped below. -/
theorem quotient_at (h : Vec Ideal S8x1024x1024 .f32) (b : Fin 8) (r d : Fin 1024) :
    k0_pay5 (F := Ideal) h (ix3 b r d) = max (Ideal.ofBits .f32 0xC3E00000#32) (h (ix3 b r d) * Quant.inverse (k0_pay4 h (ix3 b r 0))) := by
  have key : ∀ s : FVec Ideal S8x1024x1 .f32, maximumf (broadcast S8x1024x1024 (Scalar.ofBits .f32 0xC3E00000#32))
      (mulf h (broadcastTo S8x1024x1024 (select (cmpf .oge s (broadcast S8x1024x1 (Scalar.ofBits .f32 0x7F000000#32)))
        (broadcast S8x1024x1 (Scalar.ofBits .f32 0x00000000#32)) (divf (broadcast S8x1024x1 (Scalar.ofBits .f32 0x3F800000#32)) s))
         broadcasts_S8x1024x1_S8x1024x1024)) (ix3 b r d) = max (Ideal.ofBits .f32 0xC3E00000#32) (h (ix3 b r d) * Quant.inverse (s (ix3 b r 0))) := by
    intro s
    pointwise []
    rfl
  unfold k0_pay5
  rw [same]
  exact key _

/-- It clipped above. -/
theorem clip_at (h : Vec Ideal S8x1024x1024 .f32) (b : Fin 8) (r d : Fin 1024) :
    k0_pay1 (F := Ideal) (Scalar.ofBits .f32 0x43E00000#32) h (ix3 b r d) = min (Ideal.ofBits .f32 0x43E00000#32) (h (ix3 b r d)) := by
  pointwise [k0_pay1]

/-- A row's codes, from the row. -/
theorem code_row (h : Vec Ideal S8x1024x1024 .f32) (b : Fin 8) (r d : Fin 1024) :
    k0_pay1 (F := Ideal) (Scalar.ofBits .f32 0x43E00000#32) (k0_pay5 h) (ix3 b r d) = Spec.code (fun k => h (ix3 b r k)) d := by
  rw [clip_at, quotient_at, scale_row]
  rfl

/-- The product of the codes and the weights. -/
theorem product_at (q : FVec Ideal S8x1024x1024 .fp8e4m3) (w : FVec Ideal S1024x8192 .fp8e4m3) (b : Fin 8) (r : Fin 1024) (n : Fin 8192) :
   shapeCast S8x1024x8192 (matmul dot_S8192x1024_S1024x8192_S8192x8192_1_0_0_1_n_n none (shapeCast S8192x1024 q shapeCasts_S8x1024x1024_S8192x1024) w (constant S8192x8192 .f32 0x00000000#32)) shapeCasts_S8192x8192_S8x1024x8192 (ix3 b r n)
     = ∑ k : Fin 1024, q (ix3 b r k) * w (ix2 k n) := by
  pointwise []

/-- The output from the product. -/
theorem finish_at (p : FVec Ideal S8x1024x8192 .f32) (s : FVec Ideal S8x1024x1 .f32) (ws : Vec Ideal S1x1x8192 .f32) (bs : Vec Ideal S1x1x8192 .bf16) (g : Vec Ideal S8x1x8192 .f32) (b : Fin 8) (r : Fin 1024) (n : Fin 8192) :
   truncf .bf16 (mulf (addf (mulf (mulf p (broadcastTo S8x1024x8192 s broadcasts_S8x1024x1_S8x1024x8192)) (broadcastTo S8x1024x8192 (shapeCast S1x1x8192 ws shapeCasts_S1x1x8192_S1x1x8192) broadcasts_S1x1x8192_S8x1024x8192))
     (broadcastTo S8x1024x8192 (extf .f32 (shapeCast S1x1x8192 bs shapeCasts_S1x1x8192_S1x1x8192) bitsLt_bf16_f32) broadcasts_S1x1x8192_S8x1024x8192))
     (broadcastTo S8x1024x8192 (shapeCast S8x1x8192 g shapeCasts_S8x1x8192_S8x1x8192) broadcasts_S8x1x8192_S8x1024x8192)) bitsLt_bf16_f32 (ix3 b r n)
     = (p (ix3 b r n) * s (ix3 b r 0) * ws (ix3 0 0 n) + bs (ix3 0 0 n)) * g (ix3 b 0 n) := by
  pointwise []

/-- An output element, from its row. -/
theorem out_row (h : Vec Ideal S8x1024x1024 .f32) (w : Vec Ideal S1024x8192 .fp8e4m3) (ws : Vec Ideal S1x1x8192 .f32)
    (bs : Vec Ideal S1x1x8192 .bf16) (g : Vec Ideal S8x1x8192 .f32) (b : Fin 8) (r : Fin 1024) (n : Fin 8192) :
    k0_pay2 (F := Ideal) (k0_pay4 h) (Scalar.ofBits .f32 0x43E00000#32) (k0_pay5 h) w ws bs g (ix3 b r n)
      = Spec.out (Spec.code fun k => h (ix3 b r k)) (fun k => w (ix2 k n)) (Spec.rowScale fun k => h (ix3 b r k))
          (ws (ix3 0 0 n)) (bs (ix3 0 0 n)) (g (ix3 b 0 n)) := by
  unfold k0_pay2
  refine (finish_at _ (k0_pay4 h) ws bs g b r n).trans ?_
  rw [product_at, scale_row]
  unfold Spec.out
  simp only [code_row]

variable (m : (ℓ : Loc nD τ sig) → Buf (Elt Ideal) ℓ)

/-! ## What the call is entered with -/

/-- The modulated rows, -/
theorem h_at (c : Dev nD) (b : Fin 8) (r k : Fin 1024) : V m c main_v32 (ix3 b r k)
    = Spec.rowA (m ((c : Thread nD τ).loc main_arg0)) (m ((c : Thread nD τ).loc main_arg1)) (m ((c : Thread nD τ).loc main_arg2)) b r k := by
  unfold V
  after_reads_at
  rfl

/-- the gates, -/
theorem gate_at (c : Dev nD) (b : Fin 8) (n : Fin 8192) : V m c main_v9 (ix3 b 0 n)
    = Spec.modA (m ((c : Thread nD τ).loc main_arg1)) (m ((c : Thread nD τ).loc main_arg2)) b ⟨2048 + n.val, by omega⟩ := by
  unfold V
  after_reads_at
  rfl

/-- the column scales -/
theorem ws_at (c : Dev nD) (n : Fin 8192) : V m c main_v33 (ix3 0 0 n) = m ((c : Thread nD τ).loc main_arg4) (ix1 n) := by
  unfold V
  after_reads_at

/-- and the bias. -/
theorem bias_at (c : Dev nD) (n : Fin 8192) : V m c main_v34 (ix3 0 0 n) = m ((c : Thread nD τ).loc main_arg5) (ix1 n) := by
  unfold V
  after_reads_at

theorem idx0_0 : ∀ t, win0_0.index t = ![0, 0, 0] := (by decide +kernel : ∀ t : Fin grid0.N, win0_0.index t = ![0, 0, 0])
theorem idx0_1 : ∀ t, win0_1.index t = ![0, 0] := (by decide +kernel : ∀ t : Fin grid0.N, win0_1.index t = ![0, 0])
theorem idx0_2 : ∀ t, win0_2.index t = ![0, 0, 0] := (by decide +kernel : ∀ t : Fin grid0.N, win0_2.index t = ![0, 0, 0])
theorem idx0_3 : ∀ t, win0_3.index t = ![0, 0, 0] := (by decide +kernel : ∀ t : Fin grid0.N, win0_3.index t = ![0, 0, 0])
theorem idx0_4 : ∀ t, win0_4.index t = ![0, 0, 0] := (by decide +kernel : ∀ t : Fin grid0.N, win0_4.index t = ![0, 0, 0])
theorem idx0_5 : ∀ t, win0_5.index t = ![0, 0, 0] := (by decide +kernel : ∀ t : Fin grid0.N, win0_5.index t = ![0, 0, 0])
theorem idx0_6 : ∀ t, win0_6.index t = ![0, 0, 0] := (by decide +kernel : ∀ t : Fin grid0.N, win0_6.index t = ![0, 0, 0])
theorem idx0_7 : ∀ t, win0_7.index t = ![0, 0, 0] := (by decide +kernel : ∀ t : Fin grid0.N, win0_7.index t = ![0, 0, 0])

/-- Each window is its whole array: the rows', -/
theorem h_blk (c : Dev nD) (t : Fin cfg0.N) (b : Fin 8) (r k : Fin 1024) : iblk m c 0 t (ix3 b r k) = V m c main_v32 (ix3 b r k) := by
  blk_ext [iblk, idx0_0 t]
/-- the weights', -/
theorem w_blk (c : Dev nD) (t : Fin cfg0.N) (k : Fin 1024) (n : Fin 8192) : iblk m c 1 t (ix2 k n) = V m c main_arg3 (ix2 k n) := by
  blk_ext [iblk, idx0_1 t]
/-- the column scales', -/
theorem ws_blk (c : Dev nD) (t : Fin cfg0.N) (n : Fin 8192) : iblk m c 2 t (ix3 0 0 n) = V m c main_v33 (ix3 0 0 n) := by
  blk_ext [iblk, idx0_2 t]
/-- the bias's -/
theorem bias_blk (c : Dev nD) (t : Fin cfg0.N) (n : Fin 8192) : iblk m c 3 t (ix3 0 0 n) = V m c main_v34 (ix3 0 0 n) := by
  blk_ext [iblk, idx0_3 t]
/-- and the gates'. -/
theorem gate_blk (c : Dev nD) (t : Fin cfg0.N) (b : Fin 8) (n : Fin 8192) : iblk m c 4 t (ix3 b 0 n) = V m c main_v9 (ix3 b 0 n) := by
  blk_ext [iblk, idx0_4 t]

/-- A row of the block, from the arguments. -/
theorem row_blk (c : Dev nD) (t : Fin cfg0.N) (b : Fin 8) (r : Fin 1024) : (fun k => iblk m c 0 t (ix3 b r k))
    = Spec.rowA (m ((c : Thread nD τ).loc main_arg0)) (m ((c : Thread nD τ).loc main_arg1)) (m ((c : Thread nD τ).loc main_arg2)) b r := by
  funext k
  exact (h_blk m c t b r k).trans (h_at m c b r k)

/-! ## The arrays after the run -/

/-- The codes. -/
theorem codes_value (c : Dev nD) : (dats m 0 c).arrAt 6 cfg0.N
    = Spec.codesA (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp [idx0_6]
  rw [after0_6]
  unfold_out out0_6
  frame_out
  have hy : ∀ j : S8x1024x1024.Idx, (j 0).val = (y 0).val → (j 1).val = (y 1).val → (j 2).val = (y 2).val →
      k0_pay1 (F := Ideal) (Scalar.ofBits .f32 0x43E00000#32) (k0_pay5 (iblk m c 0 t)) y
        = Spec.codesA (m ((c : Thread nD τ).loc main_arg0)) (m ((c : Thread nD τ).loc main_arg1)) (m ((c : Thread nD τ).loc main_arg2)) j := fun j h0 h1 h2 => by
    obtain ⟨b, r, d, rfl⟩ : ∃ (b : Fin 8) (r d : Fin 1024), y = ix3 b r d := ⟨y 0, y 1, y 2, eq_ix3 y⟩
    obtain ⟨b', r', d', rfl⟩ : ∃ (b : Fin 8) (r d : Fin 1024), j = ix3 b r d := ⟨j 0, j 1, j 2, eq_ix3 j⟩
    have hb : b' = b := Fin.ext h0
    have hr : r' = r := Fin.ext h1
    have hd : d' = d := Fin.ext h2
    subst hb hr hd
    rw [code_row, row_blk]
    rfl
  refine hy _ ?_ ?_ ?_ <;> blk_simp [idx0_6 t]

/-- The scales. -/
theorem scale_value (c : Dev nD) : (dats m 0 c).arrAt 7 cfg0.N
    = Spec.scaleA (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp [idx0_7]
  rw [after0_7]
  unfold_out out0_7
  frame_out
  have hy : ∀ j : S8x1024x1.Idx, (j 0).val = (y 0).val → (j 1).val = (y 1).val →
      k0_pay4 (F := Ideal) (iblk m c 0 t) y
        = Spec.scaleA (m ((c : Thread nD τ).loc main_arg0)) (m ((c : Thread nD τ).loc main_arg1)) (m ((c : Thread nD τ).loc main_arg2)) j := fun j h0 h1 => by
    obtain ⟨b, r, d, rfl⟩ : ∃ (b : Fin 8) (r : Fin 1024) (d : Fin 1), y = ix3 b r d := ⟨y 0, y 1, y 2, eq_ix3 y⟩
    obtain ⟨b', r', d', rfl⟩ : ∃ (b : Fin 8) (r : Fin 1024) (d : Fin 1), j = ix3 b r d := ⟨j 0, j 1, j 2, eq_ix3 j⟩
    have hb : b' = b := Fin.ext h0
    have hr : r' = r := Fin.ext h1
    have hd : d = 0 := Subsingleton.elim _ _
    subst hb hr hd
    rw [scale_row, row_blk]
    rfl
  refine hy _ ?_ ?_ <;> blk_simp [idx0_7 t]

/-- The output. -/
theorem y_value (c : Dev nD) : (dats m 0 c).arrAt 5 cfg0.N
    = Spec.yA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 5 _ (by decide +kernel) fun t hf y => ?_
  blk_simp [idx0_5]
  rw [after0_5]
  unfold_out out0_5
  frame_out
  have hy : ∀ j : S8x1024x8192.Idx, (j 0).val = (y 0).val → (j 1).val = (y 1).val → (j 2).val = (y 2).val →
      k0_pay2 (F := Ideal) (k0_pay4 (iblk m c 0 t)) (Scalar.ofBits .f32 0x43E00000#32) (k0_pay5 (iblk m c 0 t)) (iblk m c 1 t) (iblk m c 2 t) (iblk m c 3 t) (iblk m c 4 t) y
        = Spec.yA (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) j := fun j h0 h1 h2 => by
    obtain ⟨b, r, n, rfl⟩ : ∃ (b : Fin 8) (r : Fin 1024) (n : Fin 8192), y = ix3 b r n := ⟨y 0, y 1, y 2, eq_ix3 y⟩
    obtain ⟨b', r', n', rfl⟩ : ∃ (b : Fin 8) (r : Fin 1024) (n : Fin 8192), j = ix3 b r n := ⟨j 0, j 1, j 2, eq_ix3 j⟩
    have hb : b' = b := Fin.ext h0
    have hr : r' = r := Fin.ext h1
    have hn : n' = n := Fin.ext h2
    subst hb hr hn
    rw [out_row, row_blk, ws_blk, ws_at, bias_blk, bias_at, gate_blk, gate_at]
    simp only [w_blk, V_main_arg3]
    rfl
  refine hy _ ?_ ?_ ?_ <;> blk_simp [idx0_5 t]

/-- Every run ends with the three results at these values and the arguments as launched. -/
theorem run_value (ρ : Dev nD → PrngReg) : θ_run defs (onTc (τ := τ) (main (F := Ideal))) ⟨m, fun _ => 0, ρ⟩ (fun r => ∀ c : Dev nD,
      r.2.mem ((c : Thread nD τ).loc main_v35_0) = Spec.yA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_v35_1) = Spec.codesA (m ((c : Thread nD τ).loc main_arg0)) (m ((c : Thread nD τ).loc main_arg1)) (m ((c : Thread nD τ).loc main_arg2))
      ∧ r.2.mem ((c : Thread nD τ).loc main_v35_2) = Spec.scaleA (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(h c).1.trans (y_value m c), (h c).2.1.trans (codes_value m c),
    (h c).2.2.1.trans (scale_value m c), (h c).2.2.2⟩) (Value.run_blocks m ρ)

end Cert.ReferenceIdeal.Hand

end
-- ==== Proof.lean ====
module

public import proofs.«01_k».proof.Defs
public import proofs.«01_k».proof.Proof.RunBits
public import proofs.«01_k».proof.Proof.RunIdeal
public import proofs.«01_k».proof.Proof.Gen.ReferenceIdeal.Frame
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- From memories that agree on the arguments, the kernel and the reference end with the same three results. -/
theorem algebraic : algebraic_KernelIdeal_ReferenceIdeal (hKernelIdeal := Cert.KernelIdeal.Gen.facts) (hReferenceIdeal := Cert.ReferenceIdeal.Gen.facts) := by
  intro m g m' g' _ hargs
  refine ⟨fun c => Cert.Spec.yA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.codesA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), fun c => Cert.Spec.scaleA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), Cert.KernelIdeal.Hand.run_value m g, ?_⟩
  refine (θ_run _ _ _).mono (fun r h c => ?_) (Cert.ReferenceIdeal.Hand.run_value m' g')
  obtain ⟨e0, e1, e2, e3, e4, e5⟩ := hargs c
  obtain ⟨h0, h1, h2, hk⟩ := h c
  refine ⟨h0.trans ?_, h1.trans ?_, h2.trans ?_, hk⟩
  · rw [e0, e1, e2, e3, e4, e5]
  · rw [e0, e1, e2]
  · rw [e0, e1, e2]

theorem claim : Cert.Claim := ⟨Cert.Kernel.Gen.facts, Cert.KernelIdeal.Gen.facts, Cert.ReferenceIdeal.Gen.facts, fun m ρ _ => Cert.Kernel.Hand.frame m ρ,
  fun m ρ _ => Cert.KernelIdeal.Hand.frame m ρ, fun m ρ _ => Cert.ReferenceIdeal.Gen.frame m ρ, trivial, algebraic⟩

end Cert.Proof

end
